-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "pi_3" .f32 0x3F860A92#32 (((1 / 3) * Real.pi : ℝ) : EReal)
  ∧ IdealRules.named_const.Statement Cert.KernelIdeal.κ "rbf_pref" .f32 0x3F5105EC#32 ((Real.sqrt (2 / 3) : ℝ) : EReal)
  ∧ IdealRules.named_const.Statement Cert.KernelIdeal.κ "u_coef" .f32 0x3FBA2E8C#32 ((16 / 11 : ℝ) : EReal)
  ∧ IdealRules.named_const.Statement Cert.KernelIdeal.κ "mu_expo_1" .f32 0xC02B5F35#32 ((-324 / 121 : ℝ) : EReal)
  ∧ IdealRules.named_const.Statement Cert.KernelIdeal.κ "mu_expo_2" .f32 0xBFCF56BE#32 ((-196 / 121 : ℝ) : EReal)
  ∧ IdealRules.named_const.Statement Cert.KernelIdeal.κ "mu_expo_3" .f32 0xBF5391FC#32 ((-100 / 121 : ℝ) : EReal)
  ∧ IdealRules.named_const.Statement Cert.KernelIdeal.κ "mu_expo_4" .f32 0xBE9854A1#32 ((-36 / 121 : ℝ) : EReal)
  ∧ IdealRules.named_const.Statement Cert.KernelIdeal.κ "mu_expo_5" .f32 0xBD0767AB#32 ((-4 / 121 : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S10000 : Shape := ⟨1, ![10000]⟩
abbrev S10000x17 : Shape := ⟨2, ![10000, 17]⟩
abbrev S160000x3 : Shape := ⟨2, ![160000, 3]⟩
abbrev S160000 : Shape := ⟨1, ![160000]⟩
abbrev S17x128 : Shape := ⟨2, ![17, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  reducesTo_S160000x3_S160000_d1 : S160000x3.ReducesTo [1] S160000
  h_S_ : 0 < S_.numel
  bcast_S_S160000 : S_.BroadcastsInDim S160000 (![] : Fin 0 → Fin S160000.rank)
  reducesTo_S160000_S_d0 : S160000.ReducesTo [0] S_
  bcast_S_S128 : S_.BroadcastsInDim S128 (![] : Fin 0 → Fin S128.rank)
  reducesTo_S128_S_d0 : S128.ReducesTo [0] S_

variable [Facts]

def fn {F : FTy → Type} [FloatOps F] (main_arg0 : IVec S10000 32) (main_arg1 : FVec F S10000x17 .f32) (main_arg2 : FVec F S10000x17 .f32) (main_arg3 : FVec F S10000 .f32) (main_arg4 : FVec F S160000x3 .f32) (main_arg5 : IVec S160000 32) (main_arg6 : IVec S160000 32) (main_arg7 : IVec S160000 32) (main_arg8 : IVec S160000 32) (main_arg9 : FVec F S17x128 .f32) (main_arg10 : FVec F S128 .f32) (main_arg11 : FVec F S128x1 .f32) (main_arg12 : FVec F S1 .f32) : IVec S_ 1 :=
  let main_v0 : FVec F S160000x3 .f32 := mulf main_arg4 main_arg4
  let main_cst : FVec F S_ .f32 := constant S_ .f32 0x00000000#32
  let main_v1 : FVec F S160000 .f32 := (fun x v => Host.reduceAdd x v reducesTo_S160000x3_S160000_d1 h_S_) main_v0 main_cst
  let main_v2 : FVec F S160000 .f32 := Host.sqrt main_v1
  let main_cst_0 : FVec F S_ .f32 := constant S_ .f32 0x2B8CBCCC#32
  let main_v3 : FVec F S160000 .f32 := broadcastInDim S160000 ![] bcast_S_S160000 main_cst_0
  let main_v4 : IVec S160000 1 := cmpf .oge main_v2 main_v3
  let main_c : IVec S_ 1 := constantI S_ 1 1#1
  let main_v5 : IVec S_ 1 := (fun x v => Host.reduce IntOp.andi x v reducesTo_S160000_S_d0 h_S_) main_v4 main_c
  let main_cst_1 : FVec F S_ .f32 := constant S_ .f32 0x7F800000#32
  let main_v6 : FVec F S128 .f32 := broadcastInDim S128 ![] bcast_S_S128 main_cst_1
  let main_v7 : IVec S128 1 := cmpf .olt main_arg10 main_v6
  let main_c_2 : IVec S_ 1 := constantI S_ 1 1#1
  let main_v8 : IVec S_ 1 := (fun x v => Host.reduce IntOp.andi x v reducesTo_S128_S_d0 h_S_) main_v7 main_c_2
  let main_v9 : IVec S_ 1 := andi main_v5 main_v8
  main_v9
-- ==== Kernel.lean ====
abbrev S10000 : Shape := ⟨1, ![10000]⟩
abbrev S10000x17 : Shape := ⟨2, ![10000, 17]⟩
abbrev S160000x3 : Shape := ⟨2, ![160000, 3]⟩
abbrev S160000 : Shape := ⟨1, ![160000]⟩
abbrev S17x128 : Shape := ⟨2, ![17, 128]⟩
abbrev S128 : Shape := ⟨1, ![128]⟩
abbrev S128x1 : Shape := ⟨2, ![128, 1]⟩
abbrev S1 : Shape := ⟨1, ![1]⟩
abbrev S128x17 : Shape := ⟨2, ![128, 17]⟩
abbrev S128x19 : Shape := ⟨2, ![128, 19]⟩
abbrev S10000x16x3 : Shape := ⟨3, ![10000, 16, 3]⟩
abbrev S3x16x10000 : Shape := ⟨3, ![3, 16, 10000]⟩
abbrev S1x128 : Shape := ⟨2, ![1, 128]⟩
abbrev S1x1 : Shape := ⟨2, ![1, 1]⟩
abbrev S10000x16 : Shape := ⟨2, ![10000, 16]⟩
abbrev S3x16x512 : Shape := ⟨3, ![3, 16, 512]⟩
abbrev S512x16 : Shape := ⟨2, ![512, 16]⟩
abbrev S1x16x512 : Shape := ⟨3, ![1, 16, 512]⟩
abbrev S16x512 : Shape := ⟨2, ![16, 512]⟩
abbrev S1x8192 : Shape := ⟨2, ![1, 8192]⟩
abbrev S16x1x512 : Shape := ⟨3, ![16, 1, 512]⟩
abbrev S16x16x512 : Shape := ⟨3, ![16, 16, 512]⟩
abbrev S16x16x1 : Shape := ⟨3, ![16, 16, 1]⟩
abbrev S2x8192 : Shape := ⟨2, ![2, 8192]⟩
abbrev S19x8192 : Shape := ⟨2, ![19, 8192]⟩
abbrev S128x8192 : Shape := ⟨2, ![128, 8192]⟩
abbrev S160000x1 : Shape := ⟨2, ![160000, 1]⟩

abbrev nBuf : Space → Nat
  | .hbm => 29
  | .vmem => 7
  | .smem => 0
  | _ => 0

abbrev bufTy : (tb : Table) → Fin (tcTables nBuf tb) → BufTy
  | .hbm, ⟨0, _⟩ => ⟨S10000, .i32⟩
  | .hbm, ⟨1, _⟩ => ⟨S10000x17, .f32⟩
  | .hbm, ⟨2, _⟩ => ⟨S10000x17, .f32⟩
  | .hbm, ⟨3, _⟩ => ⟨S10000, .f32⟩
  | .hbm, ⟨4, _⟩ => ⟨S160000x3, .f32⟩
  | .hbm, ⟨5, _⟩ => ⟨S160000, .i32⟩
  | .hbm, ⟨6, _⟩ => ⟨S160000, .i32⟩
  | .hbm, ⟨7, _⟩ => ⟨S160000, .i32⟩
  | .hbm, ⟨8, _⟩ => ⟨S160000, .i32⟩
  | .hbm, ⟨9, _⟩ => ⟨S17x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S128, .bf16⟩
  | .hbm, ⟨14, _⟩ => ⟨S128, .f32⟩
  | .hbm, ⟨15, _⟩ => ⟨S128, .f32⟩
  | .hbm, ⟨16, _⟩ => ⟨S128, .bf16⟩
  | .hbm, ⟨17, _⟩ => ⟨S128x17, .f32⟩
  | .hbm, ⟨18, _⟩ => ⟨S128x17, .bf16⟩
  | .hbm, ⟨19, _⟩ => ⟨S128x1, .bf16⟩
  | .hbm, ⟨20, _⟩ => ⟨S128x1, .bf16⟩
  | .hbm, ⟨21, _⟩ => ⟨S128x19, .bf16⟩
  | .hbm, ⟨22, _⟩ => ⟨S10000x16x3, .f32⟩
  | .hbm, ⟨23, _⟩ => ⟨S3x16x10000, .f32⟩
  | .hbm, ⟨24, _⟩ => ⟨S1x128, .f32⟩
  | .hbm, ⟨25, _⟩ => ⟨S1x128, .bf16⟩
  | .hbm, ⟨26, _⟩ => ⟨S1x1, .f32⟩
  | .hbm, ⟨27, _⟩ => ⟨S10000x16, .f32⟩
  | .hbm, ⟨28, _⟩ => ⟨S160000x1, .f32⟩
  | .local _ .vmem, ⟨0, _⟩ => ⟨S3x16x512, .f32⟩
  | .local _ .vmem, ⟨1, _⟩ => ⟨S3x16x512, .f32⟩
  | .local _ .vmem, ⟨2, _⟩ => ⟨S128x19, .bf16⟩
  | .local _ .vmem, ⟨3, _⟩ => ⟨S1x128, .bf16⟩
  | .local _ .vmem, ⟨4, _⟩ => ⟨S1x1, .f32⟩
  | .local _ .vmem, ⟨5, _⟩ => ⟨S512x16, .f32⟩
  | .local _ .vmem, ⟨6, _⟩ => ⟨S512x16, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x19 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mu_expo_1" => some ((-324 / 121 : ℝ) : EReal)
  | "mu_expo_2" => some ((-196 / 121 : ℝ) : EReal)
  | "mu_expo_3" => some ((-100 / 121 : ℝ) : EReal)
  | "mu_expo_4" => some ((-36 / 121 : ℝ) : EReal)
  | "mu_expo_5" => some ((-4 / 121 : ℝ) : EReal)
  | "pi_3" => some (((1 / 3) * Real.pi : ℝ) : EReal)
  | "rbf_pref" => some ((Real.sqrt (2 / 3) : ℝ) : EReal)
  | "u_coef" => some ((16 / 11 : ℝ) : EReal)
  | _ => none
-- ==== ReferenceIdeal.lean ====
abbrev S10000 : Shape := ⟨1, ![10000]⟩
abbrev S10000x17 : Shape := ⟨2, ![10000, 17]⟩
abbrev S160000x3 : Shape := ⟨2, ![160000, 3]⟩
abbrev S160000 : Shape := ⟨1, ![160000]⟩
abbrev S17x128 : Shape := ⟨2, ![17, 128]⟩
abbrev S128 : Shape := ⟨1, ![128]⟩
abbrev S128x1 : Shape := ⟨2, ![128, 1]⟩
abbrev S1 : Shape := ⟨1, ![1]⟩
abbrev S_ : Shape := ⟨0, ![]⟩
abbrev S11 : Shape := ⟨1, ![11]⟩
abbrev S12 : Shape := ⟨1, ![12]⟩
abbrev S160000x1 : Shape := ⟨2, ![160000, 1]⟩
abbrev S160000x5 : Shape := ⟨2, ![160000, 5]⟩
abbrev S10000x16x3 : Shape := ⟨3, ![10000, 16, 3]⟩
abbrev S10000x16x16 : Shape := ⟨3, ![10000, 16, 16]⟩
abbrev S16x16 : Shape := ⟨2, ![16, 16]⟩
abbrev S1x16x16 : Shape := ⟨3, ![1, 16, 16]⟩
abbrev S10000x16x16x1 : Shape := ⟨4, ![10000, 16, 16, 1]⟩
abbrev S1x1x1x12 : Shape := ⟨4, ![1, 1, 1, 12]⟩
abbrev S10000x16x16x12 : Shape := ⟨4, ![10000, 16, 16, 12]⟩
abbrev S10000x16 : Shape := ⟨2, ![10000, 16]⟩
abbrev S10000x1x16x1 : Shape := ⟨4, ![10000, 1, 16, 1]⟩
abbrev S10000x16x12 : Shape := ⟨3, ![10000, 16, 12]⟩
abbrev S160000x12 : Shape := ⟨2, ![160000, 12]⟩
abbrev S160000x17 : Shape := ⟨2, ![160000, 17]⟩
abbrev S160000x128 : Shape := ⟨2, ![160000, 128]⟩
abbrev S1x128 : Shape := ⟨2, ![1, 128]⟩
abbrev S1x1 : Shape := ⟨2, ![1, 1]⟩

abbrev nBuf : Space → Nat
  | .hbm => 213
  | .vmem => 0
  | .smem => 0
  | _ => 0

abbrev hbmTy0_0 (i : Nat) : BufTy := match i % 128 with
  | 0 => ⟨S10000, .i32⟩
  | 1 => ⟨S10000x17, .f32⟩
  | 2 => ⟨S10000x17, .f32⟩
  | 3 => ⟨S10000, .f32⟩
  | 4 => ⟨S160000x3, .f32⟩
  | 5 => ⟨S160000, .i32⟩
  | 6 => ⟨S160000, .i32⟩
  | 7 => ⟨S160000, .i32⟩
  | 8 => ⟨S160000, .i32⟩
  | 9 => ⟨S17x128, .f32⟩
  | 10 => ⟨S128, .f32⟩
  | 11 => ⟨S128x1, .f32⟩
  | 12 => ⟨S1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S11, .f32⟩
  | 21 => ⟨S_, .f32⟩
  | 22 => ⟨S11, .f32⟩
  | 23 => ⟨S11, .f32⟩
  | 24 => ⟨S1, .f32⟩
  | 25 => ⟨S_, .f32⟩
  | 26 => ⟨S11, .f32⟩
  | 27 => ⟨S11, .f32⟩
  | 28 => ⟨S11, .f32⟩
  | 29 => ⟨S11, .f32⟩
  | 30 => ⟨S1, .f32⟩
  | 31 => ⟨S11, .f32⟩
  | 32 => ⟨S11, .f32⟩
  | 33 => ⟨S11, .f32⟩
  | 34 => ⟨S1, .f32⟩
  | 35 => ⟨S12, .f32⟩
  | 36 => ⟨S160000x3, .f32⟩
  | 37 => ⟨S_, .f32⟩
  | 38 => ⟨S160000, .f32⟩
  | 39 => ⟨S160000x1, .f32⟩
  | 40 => ⟨S160000x1, .f32⟩
  | 41 => ⟨S_, .f32⟩
  | 42 => ⟨S160000x1, .f32⟩
  | 43 => ⟨S160000x1, .f32⟩
  | 44 => ⟨S160000x3, .f32⟩
  | 45 => ⟨S160000x3, .f32⟩
  | 46 => ⟨S_, .f32⟩
  | 47 => ⟨S_, .f32⟩
  | 48 => ⟨S_, .f32⟩
  | 49 => ⟨S160000x1, .f32⟩
  | 50 => ⟨S160000x1, .f32⟩
  | 51 => ⟨S160000x1, .f32⟩
  | 52 => ⟨S160000x1, .f32⟩
  | 53 => ⟨S_, .f32⟩
  | 54 => ⟨S160000x1, .f32⟩
  | 55 => ⟨S160000x1, .f32⟩
  | 56 => ⟨S160000x1, .f32⟩
  | 57 => ⟨S_, .f32⟩
  | 58 => ⟨S160000x1, .f32⟩
  | 59 => ⟨S160000x1, .f32⟩
  | 60 => ⟨S_, .f32⟩
  | 61 => ⟨S160000x1, .f32⟩
  | 62 => ⟨S160000x1, .f32⟩
  | 63 => ⟨S_, .f32⟩
  | 64 => ⟨S160000x1, .f32⟩
  | 65 => ⟨S160000x1, .i1⟩
  | 66 => ⟨S_, .f32⟩
  | 67 => ⟨S_, .f32⟩
  | 68 => ⟨S160000x1, .f32⟩
  | 69 => ⟨S160000x1, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S160000x1, .f32⟩
  | 81 => ⟨S160000x1, .f32⟩
  | 82 => ⟨S160000x1, .f32⟩
  | 83 => ⟨S160000x1, .f32⟩
  | 84 => ⟨S160000x1, .f32⟩
  | 85 => ⟨S160000x1, .f32⟩
  | 86 => ⟨S160000x1, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S160000x1, .f32⟩
  | 98 => ⟨S160000x1, .f32⟩
  | 99 => ⟨S160000x1, .f32⟩
  | 100 => ⟨S160000x1, .f32⟩
  | 101 => ⟨S160000x1, .f32⟩
  | 102 => ⟨S160000x1, .f32⟩
  | 103 => ⟨S160000x1, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S160000x1, .f32⟩
  | 115 => ⟨S160000x1, .f32⟩
  | 116 => ⟨S160000x1, .f32⟩
  | 117 => ⟨S160000x1, .f32⟩
  | 118 => ⟨S160000x1, .f32⟩
  | 119 => ⟨S160000x1, .f32⟩
  | 120 => ⟨S160000x1, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S10000, .i32⟩

abbrev hbmTy0_1 (i : Nat) : BufTy := match i % 128 with
  | 0 => ⟨S_, .f32⟩
  | 1 => ⟨S_, .f32⟩
  | 2 => ⟨S_, .f32⟩
  | 3 => ⟨S160000x1, .f32⟩
  | 4 => ⟨S160000x1, .f32⟩
  | 5 => ⟨S160000x1, .f32⟩
  | 6 => ⟨S160000x1, .f32⟩
  | 7 => ⟨S160000x1, .f32⟩
  | 8 => ⟨S160000x1, .f32⟩
  | 9 => ⟨S160000x1, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S160000x1, .f32⟩
  | 21 => ⟨S160000x1, .f32⟩
  | 22 => ⟨S160000x1, .f32⟩
  | 23 => ⟨S160000x1, .f32⟩
  | 24 => ⟨S160000x1, .f32⟩
  | 25 => ⟨S160000x1, .f32⟩
  | 26 => ⟨S160000x1, .f32⟩
  | 27 => ⟨S160000x5, .f32⟩
  | 28 => ⟨S_, .f32⟩
  | 29 => ⟨S_, .f32⟩
  | 30 => ⟨S160000x1, .f32⟩
  | 31 => ⟨S160000x1, .f32⟩
  | 32 => ⟨S_, .f32⟩
  | 33 => ⟨S160000x1, .f32⟩
  | 34 => ⟨S160000x1, .f32⟩
  | 35 => ⟨S160000x1, .f32⟩
  | 36 => ⟨S_, .f32⟩
  | 37 => ⟨S160000x1, .f32⟩
  | 38 => ⟨S160000x1, .f32⟩
  | 39 => ⟨S_, .f32⟩
  | 40 => ⟨S160000x1, .f32⟩
  | 41 => ⟨S160000x1, .f32⟩
  | 42 => ⟨S160000, .f32⟩
  | 43 => ⟨S10000x16x3, .f32⟩
  | 44 => ⟨S10000x16x16, .f32⟩
  | 45 => ⟨S16x16, .i32⟩
  | 46 => ⟨S16x16, .i32⟩
  | 47 => ⟨S_, .i32⟩
  | 48 => ⟨S16x16, .i32⟩
  | 49 => ⟨S16x16, .i32⟩
  | 50 => ⟨S16x16, .i1⟩
  | 51 => ⟨S16x16, .f32⟩
  | 52 => ⟨S_, .f32⟩
  | 53 => ⟨S16x16, .f32⟩
  | 54 => ⟨S16x16, .f32⟩
  | 55 => ⟨S1x16x16, .f32⟩
  | 56 => ⟨S10000x16x16, .f32⟩
  | 57 => ⟨S10000x16x16, .f32⟩
  | 58 => ⟨S10000x16x16x1, .f32⟩
  | 59 => ⟨S1x1x1x12, .f32⟩
  | 60 => ⟨S10000x16x16x12, .f32⟩
  | 61 => ⟨S10000x16x16x12, .f32⟩
  | 62 => ⟨S10000x16x16x12, .f32⟩
  | 63 => ⟨S10000x16x16x12, .f32⟩
  | 64 => ⟨S_, .f32⟩
  | 65 => ⟨S10000x16x16x12, .f32⟩
  | 66 => ⟨S10000x16x16x12, .f32⟩
  | 67 => ⟨S10000x16x16x12, .f32⟩
  | 68 => ⟨S10000x16, .f32⟩
  | 69 => ⟨S10000x1x16x1, .f32⟩
  | 70 => ⟨S10000x16x16x12, .f32⟩
  | 71 => ⟨S10000x16x16x12, .f32⟩
  | 72 => ⟨S_, .f32⟩
  | 73 => ⟨S10000x16x12, .f32⟩
  | 74 => ⟨S160000x12, .f32⟩
  | 75 => ⟨S160000x17, .f32⟩
  | 76 => ⟨S160000x128, .f32⟩
  | 77 => ⟨S1x128, .f32⟩
  | 78 => ⟨S160000x128, .f32⟩
  | 79 => ⟨S160000x128, .f32⟩
  | 80 => ⟨S160000x128, .f32⟩
  | 81 => ⟨S160000x1, .f32⟩
  | 82 => ⟨S1x1, .f32⟩
  | 83 => ⟨S160000x1, .f32⟩
  | 84 => ⟨S160000x1, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v0 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v1 : Ref sig .tc := ⟨.hbm, 40, rfl⟩
abbrev main_cst_1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_cst_2 : Ref sig .tc := ⟨.hbm, 46, rfl⟩
abbrev main_v6 : Ref sig .tc := ⟨.hbm, 47, rfl⟩
abbrev main_cst_3 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_4 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_cst_5 : Ref sig .tc := ⟨.hbm, 57, rfl⟩
abbrev main_v14 : Ref sig .tc := ⟨.hbm, 58, rfl⟩
abbrev main_v15 : Ref sig .tc := ⟨.hbm, 59, rfl⟩
abbrev main_cst_6 : Ref sig .tc := ⟨.hbm, 60, rfl⟩
abbrev main_v16 : Ref sig .tc := ⟨.hbm, 61, rfl⟩
abbrev main_v17 : Ref sig .tc := ⟨.hbm, 62, rfl⟩
abbrev main_cst_7 : Ref sig .tc := ⟨.hbm, 63, rfl⟩
abbrev main_v18 : Ref sig .tc := ⟨.hbm, 64, rfl⟩
abbrev main_v19 : Ref sig .tc := ⟨.hbm, 65, rfl⟩
abbrev main_cst_8 : Ref sig .tc := ⟨.hbm, 66, rfl⟩
abbrev main_call2_v0 : Ref sig .tc := ⟨.hbm, 67, rfl⟩
abbrev main_call2_v1 : Ref sig .tc := ⟨.hbm, 68, rfl⟩
abbrev main_v20 : Ref sig .tc := ⟨.hbm, 69, rfl⟩
abbrev main_cst_9 : Ref sig .tc := ⟨.hbm, 70, rfl⟩
abbrev main_cst_10 : Ref sig .tc := ⟨.hbm, 71, rfl⟩
abbrev main_v21 : Ref sig .tc := ⟨.hbm, 72, rfl⟩
abbrev main_v22 : Ref sig .tc := ⟨.hbm, 73, rfl⟩
abbrev main_cst_11 : Ref sig .tc := ⟨.hbm, 74, rfl⟩
abbrev main_v23 : Ref sig .tc := ⟨.hbm, 75, rfl⟩
abbrev main_cst_12 : Ref sig .tc := ⟨.hbm, 76, rfl⟩
abbrev main_v24 : Ref sig .tc := ⟨.hbm, 77, rfl⟩
abbrev main_cst_13 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_14 : Ref sig .tc := ⟨.hbm, 87, rfl⟩
abbrev main_cst_15 : Ref sig .tc := ⟨.hbm, 88, rfl⟩
abbrev main_v33 : Ref sig .tc := ⟨.hbm, 89, rfl⟩
abbrev main_v34 : Ref sig .tc := ⟨.hbm, 90, rfl⟩
abbrev main_cst_16 : Ref sig .tc := ⟨.hbm, 91, rfl⟩
abbrev main_v35 : Ref sig .tc := ⟨.hbm, 92, rfl⟩
abbrev main_cst_17 : Ref sig .tc := ⟨.hbm, 93, rfl⟩
abbrev main_v36 : Ref sig .tc := ⟨.hbm, 94, rfl⟩
abbrev main_cst_18 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_19 : Ref sig .tc := ⟨.hbm, 104, rfl⟩
abbrev main_cst_20 : Ref sig .tc := ⟨.hbm, 105, rfl⟩
abbrev main_v45 : Ref sig .tc := ⟨.hbm, 106, rfl⟩
abbrev main_v46 : Ref sig .tc := ⟨.hbm, 107, rfl⟩
abbrev main_cst_21 : Ref sig .tc := ⟨.hbm, 108, rfl⟩
abbrev main_v47 : Ref sig .tc := ⟨.hbm, 109, rfl⟩
abbrev main_cst_22 : Ref sig .tc := ⟨.hbm, 110, rfl⟩
abbrev main_v48 : Ref sig .tc := ⟨.hbm, 111, rfl⟩
abbrev main_cst_23 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_24 : Ref sig .tc := ⟨.hbm, 121, rfl⟩
abbrev main_cst_25 : Ref sig .tc := ⟨.hbm, 122, rfl⟩
abbrev main_v57 : Ref sig .tc := ⟨.hbm, 123, rfl⟩
abbrev main_v58 : Ref sig .tc := ⟨.hbm, 124, rfl⟩
abbrev main_cst_26 : Ref sig .tc := ⟨.hbm, 125, rfl⟩
abbrev main_v59 : Ref sig .tc := ⟨.hbm, 126, rfl⟩
abbrev main_cst_27 : Ref sig .tc := ⟨.hbm, 127, rfl⟩
abbrev main_v60 : Ref sig .tc := ⟨.hbm, 128, rfl⟩
abbrev main_cst_28 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_29 : Ref sig .tc := ⟨.hbm, 138, rfl⟩
abbrev main_cst_30 : Ref sig .tc := ⟨.hbm, 139, rfl⟩
abbrev main_v69 : Ref sig .tc := ⟨.hbm, 140, rfl⟩
abbrev main_v70 : Ref sig .tc := ⟨.hbm, 141, rfl⟩
abbrev main_cst_31 : Ref sig .tc := ⟨.hbm, 142, rfl⟩
abbrev main_v71 : Ref sig .tc := ⟨.hbm, 143, rfl⟩
abbrev main_cst_32 : Ref sig .tc := ⟨.hbm, 144, rfl⟩
abbrev main_v72 : Ref sig .tc := ⟨.hbm, 145, rfl⟩
abbrev main_cst_33 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_34 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_cst_35 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_cst_36 : Ref sig .tc := ⟨.hbm, 164, rfl⟩
abbrev main_v88 : Ref sig .tc := ⟨.hbm, 165, rfl⟩
abbrev main_v89 : Ref sig .tc := ⟨.hbm, 166, rfl⟩
abbrev main_cst_37 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_c : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_cst_38 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_39 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_40 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩

abbrev nD : Nat := 1
abbrev τ : Topo := Topo.v7x

variable {F : FTy → Type} [FloatOps F]
-- ==== Proof.KFrame.lean ====
/-
  The float kernel's run with its output forgotten, and the frame claim.  The last block's fetch leaves words nobody
  names in its buffer, and a float product over the whole tile may depend on all of them, so the run says nothing of
  what the output holds.
-/
module

public import proofs.«01_k».proof.Proof.KBody
public import proofs.«01_k».proof.Defs
public import Idealize.ShloMosaic.Lib.Pipeline.FrameSuffix
public import Idealize.ShloMosaic.Lib.Tactic

@[expose] public section

set_option maxRecDepth 16384

noncomputable section

namespace Cert.KRun

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows forgotten: the output's. -/
def forgets : Fin cfg0.W → Bool := fun w => decide (w.val = 4)
theorem forgets_0 : forgets 0 = false := rfl
theorem forgets_1 : forgets 1 = false := rfl
theorem forgets_2 : forgets 2 = false := rfl
theorem forgets_3 : forgets 3 = false := rfl
theorem forgets_4 : forgets 4 = true := rfl

/-- The proof data: the arrays as the region finds them; after the body each input's buffer at its block (the
    position block filled out past the array's end with the zero word); the output's entry is never read. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => fun _ => Scalar.ofBits .f32 0#32
  Φ _ := Pipeline.ΦA spec0 c
  q _ := fullShare
  owed _ := 0

/-- The position block's buffer has just been fetched: the block inside the array, anything past its end. -/
theorem before_0 (c : Dev nD) (t : Fin cfg0.N) (d) :
    (dats m 0 c).before (0 : Fin 5) t d = win0_0.fill (grid0.coords t) d (iblk m c 0 t) := by
  unfold Dat.before; rw [if_pos (fetch0_0 t)]; rfl

/-- The body obligation with the output forgotten, from `sound_body` at the point's buffers. -/
theorem body_obligation (c : Dev nD) :
    BodyObligationLoose (dats m 0 c) (defs₀ (F := F)) 𝒱₀ () Set.univ forgets := fun t => by
  rw [bigSep_W0, bigSep_W0]
  simp only [forgets_0, forgets_1, forgets_2, forgets_3, forgets_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before0_1_of m (dats m 0 c) rfl (fun _ => rfl) t d1,
    before0_2_of m (dats m 0 c) rfl (fun _ => rfl) t d2, before0_3_of m (dats m 0 c) rfl (fun _ => rfl) t d3]
  iapply (sound_body (F := F) c Set.univ (grid0.coords t) (cfg0.slots t 0) (cfg0.slots t 1) (cfg0.slots t 2)
    (cfg0.slots t 3) (cfg0.slots t 4) (win0_0.fill (grid0.coords t) d0 (iblk m c 0 t)) (iblk m c 1 t) (iblk m c 2 t)
    (iblk m c 3 t) d4 _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  have hx : win0_0.cut (grid0.coords t) (win0_0.fill (grid0.coords t) (fun _ => Scalar.ofBits .f32 0#32) (iblk m c 0 t))
      = iblk m c 0 t := win0_0.cut_fill _ _ _
  isplitl [H0]
  · iexists d0
    change _ ⊢ owns (c : Thread nD τ) (stage0_0 (cfg0.slots t 0)) fullShare (win0_0.fill (grid0.coords t) d0
      (win0_0.cut (grid0.coords t) (win0_0.fill (grid0.coords t) (fun _ => Scalar.ofBits .f32 0#32) (iblk m c 0 t))))
    rw [hx]; try iexact H0
  isplitl [H1]
  · iexact H1
  isplitl [H2]
  · iexact H2
  isplitl [H3]
  · iexact H3
  · iexists _; iexact H4

set_option backward.isDefEq.respectTransparency.types false in
/-- From any memory with zero counters every weakly fair execution terminates without a fault, every buffer that is
    no window's array and that the last line does not write holding what it held, every counter at zero. -/
theorem run_main :
    θ_run defs (onTc (τ := τ) (main (F := F))) (s₀ m ρ)
      (fun r => Pipeline.RDat.FramePostR (cfgs 0) (fun c => (dats m 0 c).toRForget forgets) {main_v15} (V m) r
        ∧ r.2.sem = fun _ => 0) :=
  Pipeline.θ_run_frame_around_T_forget (Q' := _) cfgs (dats m) (0 : Fin 1) launch0 defs₀ 𝒱₀ forgets {main_v15} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      exact Finset.mem_singleton.mpr (by_contra fun hne => StableHlo.devRef_ne_of_ne hne hb))
    (hmain := hmain m 𝒱₀) (hA := fun _ _ => rfl) (hΦ := fun _ _ => rfl)

/-- The frame claim at any float values: the run's post read at each argument, none of which the program writes. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => ⟨((h.1 c).2 main_arg0 (by decide)).trans (V_main_arg0 m c),
    ((h.1 c).2 main_arg1 (by decide)).trans (V_main_arg1 m c),
    ((h.1 c).2 main_arg2 (by decide)).trans (V_main_arg2 m c),
    ((h.1 c).2 main_arg3 (by decide)).trans (V_main_arg3 m c),
    ((h.1 c).2 main_arg4 (by decide)).trans (V_main_arg4 m c),
    ((h.1 c).2 main_arg5 (by decide)).trans (V_main_arg5 m c),
    ((h.1 c).2 main_arg6 (by decide)).trans (V_main_arg6 m c),
    ((h.1 c).2 main_arg7 (by decide)).trans (V_main_arg7 m c),
    ((h.1 c).2 main_arg8 (by decide)).trans (V_main_arg8 m c),
    ((h.1 c).2 main_arg9 (by decide)).trans (V_main_arg9 m c),
    ((h.1 c).2 main_arg10 (by decide)).trans (V_main_arg10 m c),
    ((h.1 c).2 main_arg11 (by decide)).trans (V_main_arg11 m c),
    ((h.1 c).2 main_arg12 (by decide)).trans (V_main_arg12 m c)⟩, h.2⟩) (run_main m ρ)

end Cert.KRun
-- ==== Proof.Lits.lean ====
/-
  The float literals of the kernel and of the reference as the real numbers they spell, and the named constants.
-/
module

public import proofs.«01_k».proof.Proof.Gen.KernelIdeal
public import Idealize.ShloMosaic.Lib.IdealHost

@[expose] public section

set_option maxRecDepth 16384

noncomputable section

namespace Cert.PairNet

open Idealize.ShloMosaic

/-- The literal `4`. -/
theorem lit_4 : Ideal.ofBits .f32 0x40800000#32 = ((4 : ℝ) : EReal) := by
  simp [Ideal.ofBits, Ideal.ieee, -EReal.coe_mul, -EReal.coe_neg]; norm_num
/-- The literal `3`. -/
theorem lit_3 : Ideal.ofBits .f32 0x40400000#32 = ((3 : ℝ) : EReal) := by
  simp [Ideal.ofBits, Ideal.ieee, -EReal.coe_mul, -EReal.coe_neg]; norm_num
/-- The literal `2`. -/
theorem lit_2 : Ideal.ofBits .f32 0x40000000#32 = ((2 : ℝ) : EReal) := by
  simp [Ideal.ofBits, Ideal.ieee, -EReal.coe_mul, -EReal.coe_neg]; norm_num
/-- The literal `5`. -/
theorem lit_5 : Ideal.ofBits .f32 0x40A00000#32 = ((5 : ℝ) : EReal) := by
  simp [Ideal.ofBits, Ideal.ieee, -EReal.coe_mul, -EReal.coe_neg]; norm_num
/-- The literal `11`. -/
theorem lit_11 : Ideal.ofBits .f32 0x41300000#32 = ((11 : ℝ) : EReal) := by
  simp [Ideal.ofBits, Ideal.ieee, -EReal.coe_mul, -EReal.coe_neg]; norm_num
/-- The literal `7/2`. -/
theorem lit_7_2 : Ideal.ofBits .f32 0x40600000#32 = ((7 / 2 : ℝ) : EReal) := by
  simp [Ideal.ofBits, Ideal.ieee, -EReal.coe_mul, -EReal.coe_neg]; norm_num
/-- The literal `1/2`. -/
theorem lit_half : Ideal.ofBits .f32 0x3F000000#32 = ((1 / 2 : ℝ) : EReal) := by
  simp [Ideal.ofBits, Ideal.ieee, -EReal.coe_mul, -EReal.coe_neg]; norm_num
/-- The literal `-1/2`. -/
theorem lit_neg_half : Ideal.ofBits .f32 0xBF000000#32 = ((-(1 / 2) : ℝ) : EReal) := by
  simp [Ideal.ofBits, Ideal.ieee, -EReal.coe_mul, -EReal.coe_neg]; norm_num
/-- The literal `-1`. -/
theorem lit_neg_1 : Ideal.ofBits .f32 0xBF800000#32 = ((-1 : ℝ) : EReal) := by
  simp [Ideal.ofBits, Ideal.ieee, -EReal.coe_mul, -EReal.coe_neg]; norm_num
/-- The literal `-4`. -/
theorem lit_neg_4 : Ideal.ofBits .f32 0xC0800000#32 = ((-4 : ℝ) : EReal) := by
  simp [Ideal.ofBits, Ideal.ieee, -EReal.coe_mul, -EReal.coe_neg]; norm_num

/-- The least length: the number the float literal `1e-12` is. -/
def eps : ℝ := 9223372 / 2 ^ 63

theorem eps_pos : 0 < eps := by unfold eps; positivity

/-- The literal `1e-12`. -/
theorem lit_eps : Ideal.ofBits .f32 0x2B8CBCCC#32 = (eps : EReal) := by
  simp [Ideal.ofBits, Ideal.ieee, eps, -EReal.coe_mul, -EReal.coe_neg]; norm_num

/-- The named `π/3`. -/
theorem named_pi3 : Named.named (F := Ideal) (φ := .f32) KernelIdeal.κ "pi_3" 0x3F860A92#32
    = ((1 / 3 * Real.pi : ℝ) : EReal) := IdealRules.named_const.ideal_named_scalar _ _ _ _ rfl
/-- The named `√(2/3)`. -/
theorem named_rbf : Named.named (F := Ideal) (φ := .f32) KernelIdeal.κ "rbf_pref" 0x3F5105EC#32
    = ((Real.sqrt (2 / 3) : ℝ) : EReal) := IdealRules.named_const.ideal_named_scalar _ _ _ _ rfl
/-- The named `16/11`. -/
theorem named_u : Named.named (F := Ideal) (φ := .f32) KernelIdeal.κ "u_coef" 0x3FBA2E8C#32
    = ((16 / 11 : ℝ) : EReal) := IdealRules.named_const.ideal_named_scalar _ _ _ _ rfl
/-- The named `-4 (9/11)²`. -/
theorem named_mu1 : Named.named (F := Ideal) (φ := .f32) KernelIdeal.κ "mu_expo_1" 0xC02B5F35#32
    = ((-324 / 121 : ℝ) : EReal) := IdealRules.named_const.ideal_named_scalar _ _ _ _ rfl
/-- The named `-4 (7/11)²`. -/
theorem named_mu2 : Named.named (F := Ideal) (φ := .f32) KernelIdeal.κ "mu_expo_2" 0xBFCF56BE#32
    = ((-196 / 121 : ℝ) : EReal) := IdealRules.named_const.ideal_named_scalar _ _ _ _ rfl
/-- The named `-4 (5/11)²`. -/
theorem named_mu3 : Named.named (F := Ideal) (φ := .f32) KernelIdeal.κ "mu_expo_3" 0xBF5391FC#32
    = ((-100 / 121 : ℝ) : EReal) := IdealRules.named_const.ideal_named_scalar _ _ _ _ rfl
/-- The named `-4 (3/11)²`. -/
theorem named_mu4 : Named.named (F := Ideal) (φ := .f32) KernelIdeal.κ "mu_expo_4" 0xBE9854A1#32
    = ((-36 / 121 : ℝ) : EReal) := IdealRules.named_const.ideal_named_scalar _ _ _ _ rfl
/-- The named `-4 (1/11)²`. -/
theorem named_mu5 : Named.named (F := Ideal) (φ := .f32) KernelIdeal.κ "mu_expo_5" 0xBD0767AB#32
    = ((-4 / 121 : ℝ) : EReal) := IdealRules.named_const.ideal_named_scalar _ _ _ _ rfl

end Cert.PairNet

end
-- ==== Proof.Feat.lean ====
/-
  The kernel's features of one atom's neighbour positions, as scalar functions on the extended reals.
-/
module

public import proofs.«01_k».proof.Proof.Lits

@[expose] public section

noncomputable section

namespace Cert.PairNet

open Idealize.ShloMosaic

/-- The number itself as an extended real. -/
abbrev cst (x : ℝ) : EReal := (x : EReal)

/-- The length of a position. -/
def len (x y z : EReal) : EReal := Ideal.sqrt (x * x + y * y + z * z)

/-- The length, at least `eps`. -/
def lenG (x y z : EReal) : EReal := max (len x y z) (cst eps)

/-- The kernel's angle: `π/3` times the length. -/
def ang (r : EReal) : EReal := cst (1 / 3 * Real.pi) * r

/-- The kernel's cutoff of a length `r` whose angle has cosine `c`. -/
def cutK (r c : EReal) : EReal :=
  if cst (7 / 2) < r then
    cst (1 / 2) - cst (1 / 2) * (cst 2 * ((cst 4 * c * c - cst 3) * c) * ((cst 4 * c * c - cst 3) * c) - 1)
  else 1

/-- The kernel's sine and cosine of the `n+1`-fold angle, from those of the angle. -/
def turn (s c : EReal) : ℕ → EReal × EReal
  | 0 => (s, c)
  | n + 1 => ((turn s c n).1 * c + (turn s c n).2 * s, (turn s c n).2 * c - (turn s c n).1 * s)

/-- The kernel's radial feature `n` of a position. -/
def radK (x y z : EReal) (n : ℕ) : EReal :=
  cst (Real.sqrt (2 / 3)) * Ideal.div 1 (lenG x y z)
      * cutK (len x y z) (Ideal.cos (ang (len x y z)))
    * (turn (Ideal.sin (ang (len x y z))) (Ideal.cos (ang (len x y z))) n).1

/-- The kernel's weight of a neighbour at length `r`. -/
def wgtK (r : EReal) : EReal := cst (1 / 2) + cst (1 / 2) * Ideal.cos (ang r)

/-- An atom's neighbours: sixteen positions of three coordinates. -/
abbrev Nbrs := Fin 16 → Fin 3 → EReal

/-- Neighbour `l` of atom `a`: its row of the positions. -/
def pairRow (a : Fin 10000) (l : Fin 16) : Fin 160000 := ⟨a.val * 16 + l.val, by omega⟩

/-- A neighbour's length. -/
def Nbrs.len (p : Nbrs) (l : Fin 16) : EReal := PairNet.len (p l 0) (p l 1) (p l 2)

/-- A neighbour's length, at least `eps`. -/
def Nbrs.lenG (p : Nbrs) (l : Fin 16) : EReal := PairNet.lenG (p l 0) (p l 1) (p l 2)

/-- A coordinate of the direction to a neighbour. -/
def Nbrs.dir (p : Nbrs) (l : Fin 16) (d : Fin 3) : EReal := Ideal.div (p l d) (p.lenG l)

/-- The cosine between two neighbours' directions, zero for a neighbour with itself. -/
def Nbrs.cosK (p : Nbrs) (l k : Fin 16) : EReal :=
  if l = k then 0 else p.dir l 0 * p.dir k 0 + p.dir l 1 * p.dir k 1 + p.dir l 2 * p.dir k 2

/-- `a` multiplied `m` times by `u`. -/
def times (a u : EReal) : ℕ → EReal
  | 0 => a
  | m + 1 => times a u m * u

/-- The kernel's summand of neighbour `l` in the angular feature `m` of neighbour `k`. -/
def Nbrs.termK (p : Nbrs) (k : Fin 16) (m : ℕ) (l : Fin 16) : EReal :=
  times (Ideal.exp (cst (-4) * p.cosK l k * (p.cosK l k + cst 2)) * wgtK (p.len l))
    (Ideal.exp (cst (16 / 11) * p.cosK l k)) m

/-- The kernel's angular feature `m` of neighbour `k`, its factor `exp e`. -/
def Nbrs.angK (p : Nbrs) (k : Fin 16) (e : ℝ) (m : ℕ) : EReal := Ideal.exp (cst e) * ∑ l, p.termK k m l

/-- The kernel's nineteen rows of neighbour `k`. -/
def Nbrs.rowK (p : Nbrs) (k : Fin 16) : Fin 19 → EReal :=
  ![radK (p k 0) (p k 1) (p k 2) 0, radK (p k 0) (p k 1) (p k 2) 1, radK (p k 0) (p k 1) (p k 2) 2,
    radK (p k 0) (p k 1) (p k 2) 3, radK (p k 0) (p k 1) (p k 2) 4,
    p.angK k (-4) 0, p.angK k (-324 / 121) 1, p.angK k (-196 / 121) 2, p.angK k (-100 / 121) 3,
    p.angK k (-36 / 121) 4, p.angK k (-4 / 121) 5, p.angK k (-4 / 121) 6, p.angK k (-36 / 121) 7,
    p.angK k (-100 / 121) 8, p.angK k (-196 / 121) 9, p.angK k (-324 / 121) 10, p.angK k (-4) 11, 1, 1]

/-- The kernel's energy of neighbour `k`, of the hidden layer's weights and biases (nineteen to a unit), the output
    weights and the output bias. -/
def Nbrs.outK (p : Nbrs) (k : Fin 16) (w : Fin 128 → Fin 19 → EReal) (v : Fin 128 → EReal) (b : EReal) : EReal :=
  (∑ j, v j * Ideal.tanh (∑ i, w j i * p.rowK k i)) + b

end Cert.PairNet

end
-- ==== Proof.KPoint.lean ====
/-
  The idealized kernel's payloads read at an index.
-/
module

public import proofs.«01_k».proof.Proof.Feat
public import proofs.«01_k».proof.Proof.Gen.KernelIdeal.Skeleton
public import Idealize.ShloMosaic.Lib.Pointwise

@[expose] public section

set_option maxRecDepth 16384

noncomputable section

namespace Cert.PairNet

open Idealize.ShloMosaic Cert.KernelIdeal Cert.KernelIdeal.Gen

/-- Column `k * 512 + n` of a row of 8192. -/
def col (k : Fin 16) (n : Fin 512) : Fin 8192 := ⟨k.val * 512 + n.val, by omega⟩

/-- A 16 by 512 array laid out as one row. -/
theorem flat_at (v : FVec Ideal S16x512 .f32) (k : Fin 16) (n : Fin 512) :
    shapeCast S1x8192 v shapeCasts_S16x512_S1x8192 (ix2 0 (col k n)) = v (ix2 k n) := by
  pointwise [col]

/-- The lengths. -/
theorem pay7_at (v0 v2 v4 : Vec Ideal S1x16x512 .f32) (k : Fin 16) (n : Fin 512) :
    k0_pay7 v0 v2 v4 (ix2 k n) = len (v0 (ix3 0 k n)) (v2 (ix3 0 k n)) (v4 (ix3 0 k n)) := by
  pointwise [k0_pay7, k0_pay4, k0_pay5, k0_pay6, len]

/-- The guarded lengths. -/
theorem pay8_at (v0 v2 v4 : Vec Ideal S1x16x512 .f32) (k : Fin 16) (n : Fin 512) :
    k0_pay8 v0 v2 v4 (ix2 k n) = lenG (v0 (ix3 0 k n)) (v2 (ix3 0 k n)) (v4 (ix3 0 k n)) := by
  pointwise [k0_pay8, pay7_at, lenG, lit_eps]

/-- The cutoff. -/
theorem pay13_at (v0 v2 v4 : Vec Ideal S1x16x512 .f32) (k : Fin 16) (n : Fin 512) :
    k0_pay13 v0 v2 v4 (ix2 k n) = cutK (len (v0 (ix3 0 k n)) (v2 (ix3 0 k n)) (v4 (ix3 0 k n)))
      (Ideal.cos (ang (len (v0 (ix3 0 k n)) (v2 (ix3 0 k n)) (v4 (ix3 0 k n))))) := by
  pointwise [k0_pay13, k0_pay12, k0_pay10, pay7_at, named_pi3, lit_4, lit_3, lit_2, lit_half, lit_7_2, cutK, ang]

/-- Radial row 0. -/
theorem pay15_at (v0 v2 v4 : Vec Ideal S1x16x512 .f32) (k : Fin 16) (n : Fin 512) :
    k0_pay15 (k0_pay9 v0 v2 v4) (k0_pay11 v0 v2 v4) (k0_pay13 v0 v2 v4) (ix2 0 (col k n))
      = radK (v0 (ix3 0 k n)) (v2 (ix3 0 k n)) (v4 (ix3 0 k n)) 0 := by
  unfold k0_pay15
  rw [flat_at]
  pointwise [k0_pay14, k0_pay9, k0_pay11, k0_pay12, k0_pay10, pay7_at, pay8_at, pay13_at, named_pi3, named_rbf, radK, turn, ang]

/-- Radial row 1. -/
theorem pay18_at (v0 v2 v4 : Vec Ideal S1x16x512 .f32) (k : Fin 16) (n : Fin 512) :
    k0_pay18 (k0_pay9 v0 v2 v4) (k0_pay11 v0 v2 v4) (k0_pay12 v0 v2 v4) (k0_pay13 v0 v2 v4) (ix2 0 (col k n))
      = radK (v0 (ix3 0 k n)) (v2 (ix3 0 k n)) (v4 (ix3 0 k n)) 1 := by
  unfold k0_pay18
  rw [flat_at]
  pointwise [k0_pay16, k0_pay14, k0_pay9, k0_pay11, k0_pay12, k0_pay10, pay7_at, pay8_at, pay13_at, named_pi3, named_rbf, radK, turn, ang]

/-- Radial row 2. -/
theorem pay21_at (v0 v2 v4 : Vec Ideal S1x16x512 .f32) (k : Fin 16) (n : Fin 512) :
    k0_pay21 (k0_pay9 v0 v2 v4) (k0_pay11 v0 v2 v4) (k0_pay12 v0 v2 v4) (k0_pay13 v0 v2 v4) (ix2 0 (col k n))
      = radK (v0 (ix3 0 k n)) (v2 (ix3 0 k n)) (v4 (ix3 0 k n)) 2 := by
  unfold k0_pay21
  rw [flat_at]
  pointwise [k0_pay19, k0_pay16, k0_pay17, k0_pay14, k0_pay9, k0_pay11, k0_pay12, k0_pay10, pay7_at, pay8_at, pay13_at, named_pi3, named_rbf, radK, turn, ang]

/-- Radial row 3. -/
theorem pay23_at (v0 v2 v4 : Vec Ideal S1x16x512 .f32) (k : Fin 16) (n : Fin 512) :
    k0_pay23 (k0_pay9 v0 v2 v4) (k0_pay11 v0 v2 v4) (k0_pay12 v0 v2 v4) (k0_pay13 v0 v2 v4) (ix2 0 (col k n))
      = radK (v0 (ix3 0 k n)) (v2 (ix3 0 k n)) (v4 (ix3 0 k n)) 3 := by
  unfold k0_pay23
  rw [flat_at]
  pointwise [k0_pay22, k0_pay20, k0_pay19, k0_pay16, k0_pay17, k0_pay14, k0_pay9, k0_pay11, k0_pay12, k0_pay10, pay7_at, pay8_at, pay13_at, named_pi3, named_rbf, radK, turn, ang]

/-- Radial row 4. -/
theorem pay24_at (v0 v2 v4 : Vec Ideal S1x16x512 .f32) (k : Fin 16) (n : Fin 512) :
    k0_pay24 (k0_pay9 v0 v2 v4) (k0_pay11 v0 v2 v4) (k0_pay12 v0 v2 v4) (k0_pay13 v0 v2 v4) (ix2 0 (col k n))
      = radK (v0 (ix3 0 k n)) (v2 (ix3 0 k n)) (v4 (ix3 0 k n)) 4 := by
  unfold k0_pay24
  rw [flat_at]
  pointwise [k0_pay22, k0_pay20, k0_pay19, k0_pay16, k0_pay17, k0_pay14, k0_pay9, k0_pay11, k0_pay12, k0_pay10, pay7_at, pay8_at, pay13_at, named_pi3, named_rbf, radK, turn, ang]

/-- An atom's neighbours as three planes give them: column `n`. -/
def nbrs (v0 v2 v4 : Vec Ideal S1x16x512 .f32) (n : Fin 512) : Nbrs :=
  fun l d => (![v0 (ix3 0 l n), v2 (ix3 0 l n), v4 (ix3 0 l n)] : Fin 3 → EReal) d

/-- The weights. -/
theorem pay25_at (v0 v2 v4 : Vec Ideal S1x16x512 .f32) (k : Fin 16) (n : Fin 512) :
    k0_pay25 (k0_pay12 v0 v2 v4) (ix2 k n) = wgtK ((nbrs v0 v2 v4 n).len k) := by
  pointwise [k0_pay25, k0_pay12, k0_pay10, pay7_at, named_pi3, lit_half, wgtK, ang, Nbrs.len, nbrs]

/-- The third coordinate's directions. -/
theorem pay26_at (v0 v2 v4 : Vec Ideal S1x16x512 .f32) (k : Fin 16) (n : Fin 512) :
    k0_pay26 (k0_pay6 v4) (k0_pay8 v0 v2 v4) (ix2 k n) = (nbrs v0 v2 v4 n).dir k 2 := by
  pointwise [k0_pay26, k0_pay6, pay8_at, Nbrs.dir, Nbrs.lenG, nbrs]

/-- The products of the first coordinate's directions. -/
theorem pay27_at (v0 v2 v4 : Vec Ideal S1x16x512 .f32) (l k : Fin 16) (n : Fin 512) :
    k0_pay27 (k0_pay4 v0) (k0_pay8 v0 v2 v4) (ix3 l k n)
      = (nbrs v0 v2 v4 n).dir l 0 * (nbrs v0 v2 v4 n).dir k 0 := by
  pointwise [k0_pay27, k0_pay4, pay8_at, Nbrs.dir, Nbrs.lenG, nbrs]

/-- The products of the second coordinate's directions. -/
theorem pay28_at (v0 v2 v4 : Vec Ideal S1x16x512 .f32) (l k : Fin 16) (n : Fin 512) :
    k0_pay28 (k0_pay5 v2) (k0_pay8 v0 v2 v4) (ix3 l k n)
      = (nbrs v0 v2 v4 n).dir l 1 * (nbrs v0 v2 v4 n).dir k 1 := by
  pointwise [k0_pay28, k0_pay5, pay8_at, Nbrs.dir, Nbrs.lenG, nbrs]

/-- The mask of a neighbour with itself. -/
theorem mask_at : ∀ l k : Fin 16, IntOp.cmpi CmpIPredicate.eq (BitVec.ofNat 32 ↑l) (BitVec.ofNat 32 ↑k)
    = BitVec.ofBool (decide (l = k)) := by decide +kernel

/-- The third coordinate's directions, of three planes. -/
abbrev kz (v0 v2 v4 : Vec Ideal S1x16x512 .f32) := k0_pay26 (k0_pay6 v4) (k0_pay8 v0 v2 v4)
/-- The first coordinate's products, of three planes. -/
abbrev kx (v0 v2 v4 : Vec Ideal S1x16x512 .f32) := k0_pay27 (k0_pay4 v0) (k0_pay8 v0 v2 v4)
/-- The second coordinate's products, of three planes. -/
abbrev ky (v0 v2 v4 : Vec Ideal S1x16x512 .f32) := k0_pay28 (k0_pay5 v2) (k0_pay8 v0 v2 v4)
/-- The weights, of three planes. -/
abbrev kw (v0 v2 v4 : Vec Ideal S1x16x512 .f32) := k0_pay25 (k0_pay12 v0 v2 v4)
/-- The step from an angular summand to the next, of three planes. -/
abbrev ku (v0 v2 v4 : Vec Ideal S1x16x512 .f32) := k0_pay31 (kz v0 v2 v4) (kx v0 v2 v4) (ky v0 v2 v4)
/-- The angular summands of row 3, of three planes. -/
abbrev kp3 (v0 v2 v4 : Vec Ideal S1x16x512 .f32) :=
  k0_pay37 (kw v0 v2 v4) (kz v0 v2 v4) (kx v0 v2 v4) (ky v0 v2 v4)

/-- The cosines. -/
theorem pay29_at (v0 v2 v4 : Vec Ideal S1x16x512 .f32) (l k : Fin 16) (n : Fin 512) :
    k0_pay29 (kz v0 v2 v4) (kx v0 v2 v4) (ky v0 v2 v4) (ix3 l k n) = (nbrs v0 v2 v4 n).cosK l k := by
  pointwise [k0_pay29, pay26_at, pay27_at, pay28_at, Nbrs.cosK, mask_at]

/-- The step from an angular summand to the next. -/
theorem pay31_at (v0 v2 v4 : Vec Ideal S1x16x512 .f32) (l k : Fin 16) (n : Fin 512) :
    ku v0 v2 v4 (ix3 l k n) = Ideal.exp (cst (16 / 11) * (nbrs v0 v2 v4 n).cosK l k) := by
  pointwise [k0_pay31, pay29_at, named_u]

/-- The angular summands of row 0. -/
theorem pay30_at (v0 v2 v4 : Vec Ideal S1x16x512 .f32) (l k : Fin 16) (n : Fin 512) :
    k0_pay30 (kw v0 v2 v4) (kz v0 v2 v4) (kx v0 v2 v4) (ky v0 v2 v4) (ix3 l k n)
      = (nbrs v0 v2 v4 n).termK k 0 l := by
  pointwise [k0_pay30, pay29_at, pay25_at, lit_neg_4, lit_2, Nbrs.termK, times]

/-- The angular summands of row 3. -/
theorem pay37_at (v0 v2 v4 : Vec Ideal S1x16x512 .f32) (l k : Fin 16) (n : Fin 512) :
    kp3 v0 v2 v4 (ix3 l k n) = (nbrs v0 v2 v4 n).termK k 3 l := by
  pointwise [k0_pay37, k0_pay35, k0_pay33, pay30_at, pay31_at, Nbrs.termK, times]

/-- Angular row 0. -/
theorem pay32_at (v0 v2 v4 : Vec Ideal S1x16x512 .f32) (k : Fin 16) (n : Fin 512) :
    k0_pay32 (kw v0 v2 v4) (kz v0 v2 v4) (kx v0 v2 v4) (ky v0 v2 v4) (ix2 0 (col k n)) = (nbrs v0 v2 v4 n).angK k (-4) 0 := by
  unfold k0_pay32
  rw [flat_at]
  pointwise [pay30_at, pay31_at, lit_neg_4, Nbrs.angK, Nbrs.termK, times]
  rfl

/-- Angular row 1. -/
theorem pay34_at (v0 v2 v4 : Vec Ideal S1x16x512 .f32) (k : Fin 16) (n : Fin 512) :
    k0_pay34 (kw v0 v2 v4) (kz v0 v2 v4) (kx v0 v2 v4) (ky v0 v2 v4) (ix2 0 (col k n)) = (nbrs v0 v2 v4 n).angK k (-324 / 121) 1 := by
  unfold k0_pay34
  rw [flat_at]
  pointwise [k0_pay33, pay30_at, pay31_at, named_mu1, Nbrs.angK, Nbrs.termK, times]
  rfl

/-- Angular row 2. -/
theorem pay36_at (v0 v2 v4 : Vec Ideal S1x16x512 .f32) (k : Fin 16) (n : Fin 512) :
    k0_pay36 (kw v0 v2 v4) (kz v0 v2 v4) (kx v0 v2 v4) (ky v0 v2 v4) (ix2 0 (col k n)) = (nbrs v0 v2 v4 n).angK k (-196 / 121) 2 := by
  unfold k0_pay36
  rw [flat_at]
  pointwise [k0_pay33, k0_pay35, pay30_at, pay31_at, named_mu2, Nbrs.angK, Nbrs.termK, times]
  rfl

/-- Angular row 3. -/
theorem pay39_at (v0 v2 v4 : Vec Ideal S1x16x512 .f32) (k : Fin 16) (n : Fin 512) :
    k0_pay39 (k0_pay38 (kw v0 v2 v4) (kz v0 v2 v4) (kx v0 v2 v4) (ky v0 v2 v4)) (ix2 0 (col k n)) = (nbrs v0 v2 v4 n).angK k (-100 / 121) 3 := by
  unfold k0_pay39
  rw [flat_at]
  pointwise [k0_pay38, pay37_at, pay30_at, pay31_at, named_mu3, Nbrs.angK, Nbrs.termK, times]
  rfl

/-- Angular row 4. -/
theorem pay41_at (v0 v2 v4 : Vec Ideal S1x16x512 .f32) (k : Fin 16) (n : Fin 512) :
    k0_pay41 (ku v0 v2 v4) (kp3 v0 v2 v4) (ix2 0 (col k n)) = (nbrs v0 v2 v4 n).angK k (-36 / 121) 4 := by
  unfold k0_pay41
  rw [flat_at]
  pointwise [k0_pay40, pay37_at, pay30_at, pay31_at, named_mu4, Nbrs.angK, Nbrs.termK, times]
  rfl

/-- Angular row 5. -/
theorem pay43_at (v0 v2 v4 : Vec Ideal S1x16x512 .f32) (k : Fin 16) (n : Fin 512) :
    k0_pay43 (ku v0 v2 v4) (kp3 v0 v2 v4) (ix2 0 (col k n)) = (nbrs v0 v2 v4 n).angK k (-4 / 121) 5 := by
  unfold k0_pay43
  rw [flat_at]
  pointwise [k0_pay40, k0_pay42, pay37_at, pay30_at, pay31_at, named_mu5, Nbrs.angK, Nbrs.termK, times]
  rfl

/-- Angular row 6. -/
theorem pay45_at (v0 v2 v4 : Vec Ideal S1x16x512 .f32) (k : Fin 16) (n : Fin 512) :
    k0_pay45 (ku v0 v2 v4) (kp3 v0 v2 v4) (ix2 0 (col k n)) = (nbrs v0 v2 v4 n).angK k (-4 / 121) 6 := by
  unfold k0_pay45
  rw [flat_at]
  pointwise [k0_pay40, k0_pay42, k0_pay44, pay37_at, pay30_at, pay31_at, named_mu5, Nbrs.angK, Nbrs.termK, times]
  rfl

/-- Angular row 7. -/
theorem pay47_at (v0 v2 v4 : Vec Ideal S1x16x512 .f32) (k : Fin 16) (n : Fin 512) :
    k0_pay47 (ku v0 v2 v4) (kp3 v0 v2 v4) (ix2 0 (col k n)) = (nbrs v0 v2 v4 n).angK k (-36 / 121) 7 := by
  unfold k0_pay47
  rw [flat_at]
  pointwise [k0_pay40, k0_pay42, k0_pay44, k0_pay46, pay37_at, pay30_at, pay31_at, named_mu4, Nbrs.angK, Nbrs.termK, times]
  rfl

/-- Angular row 8. -/
theorem pay49_at (v0 v2 v4 : Vec Ideal S1x16x512 .f32) (k : Fin 16) (n : Fin 512) :
    k0_pay49 (ku v0 v2 v4) (kp3 v0 v2 v4) (ix2 0 (col k n)) = (nbrs v0 v2 v4 n).angK k (-100 / 121) 8 := by
  unfold k0_pay49
  rw [flat_at]
  pointwise [k0_pay40, k0_pay42, k0_pay44, k0_pay46, k0_pay48, pay37_at, pay30_at, pay31_at, named_mu3, Nbrs.angK, Nbrs.termK, times]
  rfl

/-- Angular row 9. -/
theorem pay51_at (v0 v2 v4 : Vec Ideal S1x16x512 .f32) (k : Fin 16) (n : Fin 512) :
    k0_pay51 (ku v0 v2 v4) (kp3 v0 v2 v4) (ix2 0 (col k n)) = (nbrs v0 v2 v4 n).angK k (-196 / 121) 9 := by
  unfold k0_pay51
  rw [flat_at]
  pointwise [k0_pay40, k0_pay42, k0_pay44, k0_pay46, k0_pay48, k0_pay50, pay37_at, pay30_at, pay31_at, named_mu2, Nbrs.angK, Nbrs.termK, times]
  rfl

/-- Angular row 10. -/
theorem pay53_at (v0 v2 v4 : Vec Ideal S1x16x512 .f32) (k : Fin 16) (n : Fin 512) :
    k0_pay53 (ku v0 v2 v4) (kp3 v0 v2 v4) (ix2 0 (col k n)) = (nbrs v0 v2 v4 n).angK k (-324 / 121) 10 := by
  unfold k0_pay53
  rw [flat_at]
  pointwise [k0_pay40, k0_pay42, k0_pay44, k0_pay46, k0_pay48, k0_pay50, k0_pay52, pay37_at, pay30_at, pay31_at, named_mu1, Nbrs.angK, Nbrs.termK, times]
  rfl

/-- Angular row 11. -/
theorem pay1_at (v0 v2 v4 : Vec Ideal S1x16x512 .f32) (k : Fin 16) (n : Fin 512) :
    k0_pay1 (k0_pay54 (ku v0 v2 v4) (kp3 v0 v2 v4)) k0_pay55 (ix2 k n) = (nbrs v0 v2 v4 n).angK k (-4) 11 := by
  pointwise [k0_pay1, k0_pay54, k0_pay55, k0_pay52, k0_pay50, k0_pay48, k0_pay46, k0_pay44, k0_pay42, k0_pay40,
    pay37_at, pay30_at, pay31_at, lit_neg_4, Nbrs.angK, Nbrs.termK, times]
  rfl

end Cert.PairNet

end
-- ==== Proof.IBody.lean ====
/-
  The idealized kernel's body: what it stores of what its buffers hold, at any float values.
-/
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Tactic

@[expose] public section

set_option maxRecDepth 16384

noncomputable section

namespace Cert.IRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

/-- The kernel's variants: none. -/
abbrev 𝒱₀ : Variants := Variants.none

variable (m : (ℓ : Loc nD τ sig) → Buf (Elt F) ℓ) (ρ : Dev nD → PrngReg)

/-- The nineteen feature rows the body builds of a position block's three planes: five radial, twelve angular and
    two of ones, one column per (neighbour, atom of the block). -/
def descr (p0 p1 p2 : Vec F S1x16x512 .f32) : FVec F S19x8192 .f32 :=
  let v1 := k0_pay4 p0
  let v3 := k0_pay5 p1
  let v5 := k0_pay6 p2
  let v13 := k0_pay8 p0 p1 p2
  let v15 := k0_pay9 p0 p1 p2
  let v18 := k0_pay11 p0 p1 p2
  let v19 := k0_pay12 p0 p1 p2
  let v38 := k0_pay13 p0 p1 p2
  let v76 := k0_pay25 v19
  let v85 := k0_pay26 v5 v13
  let v90 := k0_pay27 v1 v13
  let v95 := k0_pay28 v3 v13
  let v121 := k0_pay31 v85 v90 v95
  let v139 := k0_pay37 v76 v85 v90 v95
  k0_pay2 (k0_pay15 v15 v18 v38) (k0_pay18 v15 v18 v19 v38) (k0_pay21 v15 v18 v19 v38) (k0_pay23 v15 v18 v19 v38)
    (k0_pay24 v15 v18 v19 v38) (k0_pay32 v76 v85 v90 v95) (k0_pay34 v76 v85 v90 v95) (k0_pay36 v76 v85 v90 v95)
    (k0_pay39 (k0_pay38 v76 v85 v90 v95)) (k0_pay41 v121 v139) (k0_pay43 v121 v139) (k0_pay45 v121 v139)
    (k0_pay47 v121 v139) (k0_pay49 v121 v139) (k0_pay51 v121 v139) (k0_pay53 v121 v139)
    (k0_pay1 (k0_pay54 v121 v139) k0_pay55)

/-- A position block's plane `d`, as the body loads it. -/
def plane (d : Nat) (h : ∀ a, (![d, 0, 0] : Fin 3 → Nat) a + S1x16x512.size a ≤ S3x16x512.size a)
    (X : S3x16x512.Idx → Elt F .f32) : Vec F S1x16x512 .f32 :=
  fun j => X ((Rect.unit (s := S3x16x512) ![d, 0, 0] S1x16x512.size h).emb j)

/-- What the body stores to the output's buffer, of what the four input buffers hold. -/
def blockOut (X0 : S3x16x512.Idx → Elt F .f32) (X1 : S128x19.Idx → Elt F .bf16) (X2 : S1x128.Idx → Elt F .bf16)
    (X3 : S1x1.Idx → Elt F .f32) : S512x16.Idx → Elt F .f32 :=
  k0_pay3 (descr (plane 0 inb_S3x16x512_S1x16x512_0_0_0 X0) (plane 1 inb_S3x16x512_S1x16x512_1_0_0 X0)
    (plane 2 inb_S3x16x512_S1x16x512_2_0_0 X0)) X1 X2 X3

set_option maxHeartbeats 1600000 in
/-- The kernel body on the staging buffers: three loads of the position block's planes, the loads of the weights
    and the output bias, a dead load of the output's buffer, one whole store.  The inputs' buffers are left as found;
    the output's holds `blockOut` of them. -/
theorem sound_body (c : Dev nD) (E : Set ℕ) (i : grid0.Coords) (s0 : Fin 2) (s1 s2 s3 : Fin 1) (s4 : Fin 2)
    (X0 : S3x16x512.Idx → Elt F .f32) (X1 : S128x19.Idx → Elt F .bf16) (X2 : S1x128.Idx → Elt F .bf16)
    (X3 : S1x1.Idx → Elt F .f32) (X4 : S512x16.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (blockOut X0 X1 X2 X3)) -∗ K ⟨⟩))
      ⊢ wp frame (wpE (defs₀ (F := F)) 𝒱₀ c none) E
          (cc0__pair_nn_block i (stage0_0 s0) (hstage0_0 s0) (stage0_1 s1) (hstage0_1 s1) (stage0_2 s2) (hstage0_2 s2)
            (stage0_3 s3) (hstage0_3 s3) (stage0_4 s4) (hstage0_4 s4)) K := by
  have hz : (![0, 0] : Fin 2 → Nat) = fun _ => 0 := funext fun a => by fin_cases a <;> rfl
  fin_cases s1; fin_cases s2; fin_cases s3
  fin_cases s0 <;> fin_cases s4
  · -- the position block's buffer 0, the output's 0
    have hr1 : (Memref.whole cc0_stg1_0 : Memref sig .tc _ _ _).view.readAt (Elt F) (Rect.unit (s := S128x19) ![0, 0] S128x19.size
        inb_S128x19_S128x19_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S1x1) ![0, 0] S1x1.size
        inb_S1x1_S1x1_0_0).toLoadRect = id := funext (Memref.readAt_unit_zero (Elt F) cc0_stg3_0 hz _)
    have hw4 : ∀ f w, (((Memref.whole cc0_stg4_0).access (Rect.unit (s := S512x16) ![0, 0] S512x16.size inb_S512x16_S512x16_0_0)) :
        View sig .tc _ _ _).write (Elt F) f w Finset.univ = w := Memref.write_access_unit_zero_univ (Elt F) cc0_stg4_0 hz _
    simp only [owns_whole_eq, cc0__pair_nn_block_eq_skeleton]
    unfold cc0__pair_nn_block_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists (blockOut f0 f1 f2 f3); isplitr; · ipureintro; rw [hf0, hf1, hf2, hf3]
      iexact H4
  · -- the position block's buffer 0, the output's 1
    have hr1 : (Memref.whole cc0_stg1_0 : Memref sig .tc _ _ _).view.readAt (Elt F) (Rect.unit (s := S128x19) ![0, 0] S128x19.size
        inb_S128x19_S128x19_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S1x1) ![0, 0] S1x1.size
        inb_S1x1_S1x1_0_0).toLoadRect = id := funext (Memref.readAt_unit_zero (Elt F) cc0_stg3_0 hz _)
    have hw4 : ∀ f w, (((Memref.whole cc0_stg4_1).access (Rect.unit (s := S512x16) ![0, 0] S512x16.size inb_S512x16_S512x16_0_0)) :
        View sig .tc _ _ _).write (Elt F) f w Finset.univ = w := Memref.write_access_unit_zero_univ (Elt F) cc0_stg4_1 hz _
    simp only [owns_whole_eq, cc0__pair_nn_block_eq_skeleton]
    unfold cc0__pair_nn_block_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists (blockOut f0 f1 f2 f3); isplitr; · ipureintro; rw [hf0, hf1, hf2, hf3]
      iexact H4
  · -- the position block's buffer 1, the output's 0
    have hr1 : (Memref.whole cc0_stg1_0 : Memref sig .tc _ _ _).view.readAt (Elt F) (Rect.unit (s := S128x19) ![0, 0] S128x19.size
        inb_S128x19_S128x19_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S1x1) ![0, 0] S1x1.size
        inb_S1x1_S1x1_0_0).toLoadRect = id := funext (Memref.readAt_unit_zero (Elt F) cc0_stg3_0 hz _)
    have hw4 : ∀ f w, (((Memref.whole cc0_stg4_0).access (Rect.unit (s := S512x16) ![0, 0] S512x16.size inb_S512x16_S512x16_0_0)) :
        View sig .tc _ _ _).write (Elt F) f w Finset.univ = w := Memref.write_access_unit_zero_univ (Elt F) cc0_stg4_0 hz _
    simp only [owns_whole_eq, cc0__pair_nn_block_eq_skeleton]
    unfold cc0__pair_nn_block_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists (blockOut f0 f1 f2 f3); isplitr; · ipureintro; rw [hf0, hf1, hf2, hf3]
      iexact H4
  · -- the position block's buffer 1, the output's 1
    have hr1 : (Memref.whole cc0_stg1_0 : Memref sig .tc _ _ _).view.readAt (Elt F) (Rect.unit (s := S128x19) ![0, 0] S128x19.size
        inb_S128x19_S128x19_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hr3 : (Memref.whole cc0_stg3_0 : Memref sig .tc _ _ _).view.readAt (Elt F) (Rect.unit (s := S1x1) ![0, 0] S1x1.size
        inb_S1x1_S1x1_0_0).toLoadRect = id := funext (Memref.readAt_unit_zero (Elt F) cc0_stg3_0 hz _)
    have hw4 : ∀ f w, (((Memref.whole cc0_stg4_1).access (Rect.unit (s := S512x16) ![0, 0] S512x16.size inb_S512x16_S512x16_0_0)) :
        View sig .tc _ _ _).write (Elt F) f w Finset.univ = w := Memref.write_access_unit_zero_univ (Elt F) cc0_stg4_1 hz _
    simp only [owns_whole_eq, cc0__pair_nn_block_eq_skeleton]
    unfold cc0__pair_nn_block_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    rw [hr1, hr2, hr3, hw4]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    · iexists (blockOut f0 f1 f2 f3); isplitr; · ipureintro; rw [hf0, hf1, hf2, hf3]
      iexact H4

end Cert.IRun
-- ==== Proof.KBlock.lean ====
/-
  What the idealized kernel's body stores, read at an index.
-/
module

public import proofs.«01_k».proof.Proof.KPoint
public import proofs.«01_k».proof.Proof.IBody

@[expose] public section

set_option maxRecDepth 16384

noncomputable section

namespace Cert.PairNet

open Idealize.ShloMosaic Cert.KernelIdeal Cert.KernelIdeal.Gen

/-- The nineteen rows at a column: the kernel's rows of that neighbour of that atom. -/
theorem descr_at (v0 v2 v4 : Vec Ideal S1x16x512 .f32) (i : Fin 19) (k : Fin 16) (n : Fin 512) :
    IRun.descr v0 v2 v4 (ix2 i (col k n)) = (nbrs v0 v2 v4 n).rowK k i := by
  unfold IRun.descr k0_pay2
  fin_cases i
  all_goals pointwise [flat_at, pay15_at, pay18_at, pay21_at, pay23_at, pay24_at, pay32_at, pay34_at, pay36_at,
    pay39_at, pay41_at, pay43_at, pay45_at, pay47_at, pay49_at, pay51_at, pay53_at, pay1_at, Nbrs.rowK]
  all_goals rfl

/-- An atom's neighbours as a position block gives them: column `n`. -/
def blkNbrs (X : S3x16x512.Idx → EReal) (n : Fin 512) : Nbrs := fun l d => X (ix3 d l n)

/-- A plane of a position block at an index. -/
theorem nbrs_plane (X : S3x16x512.Idx → Elt Ideal .f32) (n : Fin 512) :
    nbrs (IRun.plane 0 inb_S3x16x512_S1x16x512_0_0_0 X) (IRun.plane 1 inb_S3x16x512_S1x16x512_1_0_0 X)
      (IRun.plane 2 inb_S3x16x512_S1x16x512_2_0_0 X) n = blkNbrs X n := by
  have h : ∀ (d : Fin 3) (hd : ∀ a, (![d.val, 0, 0] : Fin 3 → Nat) a + S1x16x512.size a ≤ S3x16x512.size a) (l : Fin 16),
      IRun.plane (F := Ideal) d.val hd X (ix3 0 l n) = X (ix3 d l n) := by
    intro d hd l
    unfold IRun.plane
    congr 1
    funext a
    apply Fin.ext
    fin_cases a <;> simp [Rect.emb, Rect.unit, ix3]
  funext l d
  unfold nbrs blkNbrs
  fin_cases d
  · exact h 0 _ l
  · exact h 1 _ l
  · exact h 2 _ l

/-- A block's energies, of the block's positions: the kernel's energy of that neighbour of that atom. -/
theorem blockOut_at (X0 : S3x16x512.Idx → Elt Ideal .f32) (X1 : S128x19.Idx → Elt Ideal .bf16)
    (X2 : S1x128.Idx → Elt Ideal .bf16) (X3 : S1x1.Idx → Elt Ideal .f32) (n : Fin 512) (k : Fin 16) :
    IRun.blockOut X0 X1 X2 X3 (ix2 n k)
      = (blkNbrs X0 n).outK k (fun j i => X1 (ix2 j i)) (fun j => X2 (ix2 0 j)) (X3 (ix2 0 0)) := by
  unfold IRun.blockOut
  pointwise [k0_pay3]
  have h : ∀ i, IRun.descr (IRun.plane 0 inb_S3x16x512_S1x16x512_0_0_0 X0)
      (IRun.plane 1 inb_S3x16x512_S1x16x512_1_0_0 X0) (IRun.plane 2 inb_S3x16x512_S1x16x512_2_0_0 X0)
      (ix2 i ⟨k.val * 512 + n.val, by omega⟩) = (blkNbrs X0 n).rowK k i := fun i => by
    rw [← nbrs_plane]; exact descr_at _ _ _ i k n
  simp only [h]
  rfl

end Cert.PairNet

end
-- ==== Proof.KHost.lean ====
/-
  What the idealized kernel's region finds in its input arrays, of the program's arguments.
-/
module

public import proofs.«01_k».proof.Proof.KBlock
public import proofs.«01_k».proof.Proof.Gen.KernelIdeal.Frame
public import Idealize.ShloMosaic.Lib.Claim

@[expose] public section

set_option maxRecDepth 16384

noncomputable section

namespace Cert.PairNet

open Idealize.ShloMosaic Idealize.ShloMosaic.TcCoe Cert.KernelIdeal Cert.KernelIdeal.Gen

variable (m : (ℓ : Loc nD τ sig) → Buf (Elt Ideal) ℓ) (c : Dev nD)

/-- An atom's neighbours, of the positions array. -/
def posNbrs (r : (⟨2, ![160000, 3]⟩ : Shape).Idx → EReal) (a : Fin 10000) : Nbrs := fun l d => r (ix2 (pairRow a l) d)

/-- The hidden layer's nineteen weights to a unit: seventeen of the weights array and the bias cut in two. -/
def hidW (w : (⟨2, ![17, 128]⟩ : Shape).Idx → EReal) (b : (⟨1, ![128]⟩ : Shape).Idx → EReal) (j : Fin 128) (i : Fin 19) : EReal :=
  if h : i.val < 17 then w (ix2 ⟨i.val, h⟩ j) else if i.val - 17 < 1 then b (ix1 j) else b (ix1 j) - b (ix1 j)

/-- The positions the region finds. -/
theorem V_pos (d : Fin 3) (l : Fin 16) (a : Fin 10000) :
    V m c main_v10 (ix3 d l a) = posNbrs (m ((c.tc : Thread nD τ).loc main_arg4)) a l d := by
  have h : V m c main_v10 = transpose S3x16x10000 [2, 1, 0] (shapeCast S10000x16x3 (m ((c.tc : Thread nD τ).loc main_arg4))
      shapeCasts_S160000x3_S10000x16x3) transposes_S10000x16x3_S3x16x10000_2_1_0 := by
    unfold V V0
    simp only [hostOps0, List.flatten_cons, List.flatten_nil, List.append_nil, List.cons_append, List.nil_append]
    after_results
    rfl
  rw [h]
  pointwise [posNbrs]
  rfl

/-- The output weights the region finds. -/
theorem V_outW (j : Fin 128) :
    V m c main_v12 (ix2 0 j) = m ((c.tc : Thread nD τ).loc main_arg11) (ix2 j 0) := by
  have h : V m c main_v12 = (truncf (F := Ideal) .bf16 (transpose S1x128 [1, 0] (m ((c.tc : Thread nD τ).loc main_arg11) : FVec Ideal S128x1 .f32)
      transposes_S128x1_S1x128_1_0) bitsLt_bf16_f32 : FVec Ideal S1x128 .bf16) := by
    unfold V V0
    simp only [hostOps0, List.flatten_cons, List.flatten_nil, List.append_nil, List.cons_append, List.nil_append]
    after_results
  rw [h]
  pointwise

/-- The output bias the region finds. -/
theorem V_outB : V m c main_v13 (ix2 0 0) = m ((c.tc : Thread nD τ).loc main_arg12) (ix1 0) := by
  have h : V m c main_v13 = shapeCast S1x1 (m ((c.tc : Thread nD τ).loc main_arg12)) shapeCasts_S1_S1x1 := by
    unfold V V0
    simp only [hostOps0, List.flatten_cons, List.flatten_nil, List.append_nil, List.cons_append, List.nil_append]
    after_results
    rfl
  rw [h]
  pointwise

/-- The hidden layer's weights the region finds. -/
theorem V_hidW (j : Fin 128) (i : Fin 19) :
    V m c main_v8 (ix2 j i)
      = hidW (m ((c.tc : Thread nD τ).loc main_arg9)) (m ((c.tc : Thread nD τ).loc main_arg10)) j i := by
  have h : V m c main_v8 = (concatenate S128x19 1
      [⟨S128x17, (transpose S128x17 [1, 0] (m ((c.tc : Thread nD τ).loc main_arg9)) transposes_S17x128_S128x17_1_0
          : FVec Ideal S128x17 .bf16)⟩,
        ⟨S128x1, (broadcastInDim S128x1 ![0] bcast_S128_S128x1_0 (m ((c.tc : Thread nD τ).loc main_arg10) : FVec Ideal S128 .bf16)
          : FVec Ideal S128x1 .bf16)⟩,
        ⟨S128x1, (broadcastInDim S128x1 ![0] bcast_S128_S128x1_0 (subf (m ((c.tc : Thread nD τ).loc main_arg10) : FVec Ideal S128 .f32)
          (m ((c.tc : Thread nD τ).loc main_arg10)) : FVec Ideal S128 .f32) : FVec Ideal S128x1 .bf16)⟩]
      concatenates_S128x17_S128x1_S128x1_S128x19_d1 : FVec Ideal S128x19 .bf16) := by
    unfold V V0
    simp only [hostOps0, List.flatten_cons, List.flatten_nil, List.append_nil, List.cons_append, List.nil_append]
    after_results
    rfl
  rw [h]
  pointwise [hidW]
  rfl

end Cert.PairNet

end
-- ==== Proof.IRun.lean ====
/-
  The idealized kernel's run, exactly: what its result array ends holding, of the program's arguments.
-/
module

public import proofs.«01_k».proof.Proof.KHost
public import Idealize.ShloMosaic.Lib.Pipeline.FrameSuffix
public import Idealize.ShloMosaic.Lib.Pipeline.Value
public import Idealize.ShloMosaic.Lib.Pipeline.ValueKit.Geometry
public import Idealize.ShloMosaic.Lib.Tactic

@[expose] public section

set_option maxRecDepth 16384

noncomputable section

namespace Cert.IRun

open Cert.KernelIdeal Cert.KernelIdeal.Gen Cert.PairNet

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The position block and the output block are cut at the same atom, and nowhere else. -/
theorem cut_alike : ∀ t : Fin grid0.N, win0_0.xsize (grid0.coords t) 0 = 3 ∧ win0_0.xsize (grid0.coords t) 1 = 16
    ∧ win0_0.xsize (grid0.coords t) 2 = win0_4.xsize (grid0.coords t) 0 ∧ win0_4.xsize (grid0.coords t) 1 = 16 := by
  decide +kernel

/-- A point's position block, filled out past the array's end. -/
def posBlk (c : Dev nD) (t : Fin cfg0.N) (d : S3x16x512.Idx → Elt Ideal .f32) : S3x16x512.Idx → Elt Ideal .f32 :=
  win0_0.fill (grid0.coords t) d (iblk m c 0 t)

/-- A point's output block, of a filler of the position block. -/
def outBlk (c : Dev nD) (t : Fin cfg0.N) (d : S3x16x512.Idx → Elt Ideal .f32) : S512x16.Idx → Elt Ideal .f32 :=
  blockOut (posBlk m c t d) (iblk m c 1 t) (iblk m c 2 t) (iblk m c 3 t)

/-- Inside the array the position block is the array's, whatever fills it out. -/
theorem posBlk_inside (c : Dev nD) (t : Fin cfg0.N) (d d' : S3x16x512.Idx → Elt Ideal .f32) (n : Fin 512)
    (hn : n.val < win0_4.xsize (grid0.coords t) 0) : blkNbrs (posBlk m c t d) n = blkNbrs (posBlk m c t d') n := by
  obtain ⟨h0, h1, h2, -⟩ := cut_alike t
  funext l e
  have hm : win0_0.moved (grid0.coords t) (ix3 e l n) = true := (win0_0.moved_iff _ _).mpr fun a => by
    fin_cases a
    · exact lt_of_lt_of_eq e.isLt h0.symm
    · exact lt_of_lt_of_eq l.isLt h1.symm
    · exact lt_of_lt_of_eq hn h2.symm
  show win0_0.fill _ _ _ _ = win0_0.fill _ _ _ _
  unfold Window.fill
  rw [dif_pos hm, dif_pos hm]

/-- Inside the array the output block is the same, whatever fills the position block out. -/
theorem outBlk_inside (c : Dev nD) (t : Fin cfg0.N) (d d' : S3x16x512.Idx → Elt Ideal .f32) :
    outBlk m c t d = win0_4.fill (grid0.coords t) (outBlk m c t d) (win0_4.cut (grid0.coords t) (outBlk m c t d')) := by
  funext j
  unfold Window.fill
  split
  · rename_i hm
    have hn := (win0_4.moved_iff _ j).mp hm 0
    show outBlk m c t d j = outBlk m c t d' j
    obtain ⟨n, k, rfl⟩ : ∃ n k, j = ix2 n k := ⟨j 0, j 1, eq_ix2 j⟩
    unfold outBlk
    rw [blockOut_at, blockOut_at, posBlk_inside m c t d d' n hn]
  · rfl

/-- The proof data: the arrays as the region finds them; after the body each input's buffer at its block, the output's
    at the block of energies. -/
def dats (_ : Fin 1) (c : Dev nD) : Dat τ (Elt Ideal) Unit ℕ (UR sig nD τ) ℕ cfg0 c where
  A w := V m c (Pipeline.arrRef spec0 w)
  after w t := match w with
    | ⟨0, _⟩ => posBlk m c t fun _ => 0
    | ⟨1, _⟩ => iblk m c 1 t
    | ⟨2, _⟩ => iblk m c 2 t
    | ⟨3, _⟩ => iblk m c 3 t
    | ⟨4, _⟩ => outBlk m c t fun _ => 0
  Φ _ := Pipeline.ΦA spec0 c
  q _ := fullShare
  owed _ := 0

/-- The position block's buffer has just been fetched: the block inside the array, anything past its end. -/
theorem before_0 (c : Dev nD) (t : Fin cfg0.N) (d) :
    (dats m 0 c).before (0 : Fin 5) t d = posBlk m c t d := by
  unfold Dat.before; rw [if_pos (fetch0_0 t)]; rfl

/-- The body obligation, from `sound_body` at the point's buffers. -/
theorem body_obligation (c : Dev nD) :
    BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before0_1_of m (dats m 0 c) rfl (fun _ => rfl) t d1,
    before0_2_of m (dats m 0 c) rfl (fun _ => rfl) t d2, before0_3_of m (dats m 0 c) rfl (fun _ => rfl) t d3]
  iapply (sound_body (F := Ideal) c Set.univ (grid0.coords t) (cfg0.slots t 0) (cfg0.slots t 1) (cfg0.slots t 2)
    (cfg0.slots t 3) (cfg0.slots t 4) (posBlk m c t d0) (iblk m c 1 t) (iblk m c 2 t)
    (iblk m c 3 t) _ _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  have hx : win0_0.cut (grid0.coords t) (posBlk m c t fun _ => 0) = iblk m c 0 t := win0_0.cut_fill _ _ _
  isplitl [H0]
  · iexists d0
    change _ ⊢ owns (c : Thread nD τ) (stage0_0 (cfg0.slots t 0)) fullShare (win0_0.fill (grid0.coords t) d0
      (win0_0.cut (grid0.coords t) (posBlk m c t fun _ => 0)))
    rw [hx]; exact BI.Entails.refl _
  isplitl [H1]
  · iexact H1
  isplitl [H2]
  · iexact H2
  isplitl [H3]
  · iexact H3
  · iexists (outBlk m c t d0)
    change _ ⊢ owns (c : Thread nD τ) (stage0_4 (cfg0.slots t 4)) fullShare (win0_4.fill (grid0.coords t) (outBlk m c t d0)
      (win0_4.cut (grid0.coords t) (outBlk m c t fun _ => 0)))
    rw [← outBlk_inside]; exact BI.Entails.refl _

/-- The block indices of a point: the position block's third and the output's first are the point, the rest zero. -/
theorem index_at : ∀ t : Fin grid0.N, (win0_0.index t 0 = 0 ∧ win0_0.index t 1 = 0 ∧ win0_0.index t 2 = t.val)
    ∧ (∀ a, win0_1.index t a = 0) ∧ (∀ a, win0_2.index t a = 0) ∧ (∀ a, win0_3.index t a = 0)
    ∧ (win0_4.index t 0 = t.val ∧ win0_4.index t 1 = 0) := by
  decide +kernel

/-- What the output array ends holding: at an atom and a neighbour, the kernel's energy of that neighbour. -/
def energies (c : Dev nD) : S10000x16.Idx → Elt Ideal .f32 := fun i =>
  (posNbrs (m ((c.tc : Thread nD τ).loc main_arg4)) (i 0)).outK (i 1)
    (hidW (m ((c.tc : Thread nD τ).loc main_arg9)) (m ((c.tc : Thread nD τ).loc main_arg10)))
    (fun j => m ((c.tc : Thread nD τ).loc main_arg11) (ix2 j 0)) (m ((c.tc : Thread nD τ).loc main_arg12) (ix1 0))

/-- The hidden layer's weights are whole in every block. -/
theorem iblk_hidW (c : Dev nD) (t : Fin cfg0.N) (j : Fin 128) (i : Fin 19) :
    (iblk m c 1 t : S128x19.Idx → Elt Ideal .bf16) (ix2 j i) = V m c main_v8 (ix2 j i) := by
  show V m c main_v8 _ = _
  congr 1
  funext a
  apply Fin.ext
  blk_simp
  rw [show win0_1.index t a = 0 from (index_at t).2.1 a, Nat.zero_mul, Nat.zero_add]

/-- The output weights are whole in every block. -/
theorem iblk_outW (c : Dev nD) (t : Fin cfg0.N) (j : Fin 128) :
    (iblk m c 2 t : S1x128.Idx → Elt Ideal .bf16) (ix2 0 j) = V m c main_v12 (ix2 0 j) := by
  show V m c main_v12 _ = _
  congr 1
  funext a
  apply Fin.ext
  blk_simp
  rw [show win0_2.index t a = 0 from (index_at t).2.2.1 a, Nat.zero_mul, Nat.zero_add]

/-- The output bias is whole in every block. -/
theorem iblk_outB (c : Dev nD) (t : Fin cfg0.N) :
    (iblk m c 3 t : S1x1.Idx → Elt Ideal .f32) (ix2 0 0) = V m c main_v13 (ix2 0 0) := by
  show V m c main_v13 _ = _
  congr 1
  funext a
  apply Fin.ext
  blk_simp
  rw [show win0_3.index t a = 0 from (index_at t).2.2.2.1 a, Nat.zero_mul, Nat.zero_add]

/-- A point's atom at a column of its block inside the array. -/
theorem posBlk_atom (c : Dev nD) (t : Fin cfg0.N) (d : S3x16x512.Idx → Elt Ideal .f32) (n : Fin 512)
    (hn : n.val < win0_4.xsize (grid0.coords t) 0) (a : Fin 10000) (ha : a.val = t.val * 512 + n.val) :
    blkNbrs (posBlk m c t d) n = posNbrs (m ((c.tc : Thread nD τ).loc main_arg4)) a := by
  obtain ⟨h0, h1, h2, -⟩ := cut_alike t
  obtain ⟨⟨i0, i1, i2⟩, -⟩ := index_at t
  funext l e
  have hm : win0_0.moved (grid0.coords t) (ix3 e l n) = true := (win0_0.moved_iff _ _).mpr fun a => by
    fin_cases a
    · exact lt_of_lt_of_eq e.isLt h0.symm
    · exact lt_of_lt_of_eq l.isLt h1.symm
    · exact lt_of_lt_of_eq hn h2.symm
  rw [← V_pos]
  show win0_0.fill _ _ _ _ = _
  unfold Window.fill
  rw [dif_pos hm]
  show V m c main_v10 _ = _
  congr 1
  funext b
  apply Fin.ext
  blk_simp
  show win0_0.index t b * _ + _ = _
  fin_cases b
  · show win0_0.index t 0 * _ + _ = _
    rw [i0, Nat.zero_mul, Nat.zero_add]; rfl
  · show win0_0.index t 1 * _ + _ = _
    rw [i1, Nat.zero_mul, Nat.zero_add]; rfl
  · show win0_0.index t 2 * 512 + n.val = a.val
    rw [i2, ha]

/-- The output array ends holding the energies. -/
theorem arr_out (c : Dev nD) : (dats m 0 c).arrAt 4 cfg0.N = energies m c := by
  refine (dats m 0 c).arrAt_eq_of_covers 4 (energies m c) (by decide +kernel) (fun t hf y => ?_)
  show outBlk m c t (fun _ => 0) (win0_4.xinj (grid0.coords t) y) = _
  obtain ⟨-, -, -, -, i0, i1⟩ := index_at t
  have hy0 : (y 0).val < win0_4.xsize (grid0.coords t) 0 := (y 0).isLt
  have hn : (y 0).val < 512 := lt_of_lt_of_le hy0 (win0_4.xsize_le (grid0.coords t) 0)
  have hk : (y 1).val < 16 := lt_of_lt_of_le (y 1).isLt (win0_4.xsize_le (grid0.coords t) 1)
  have hj : win0_4.xinj (grid0.coords t) y = ix2 (⟨(y 0).val, hn⟩ : Fin 512) (⟨(y 1).val, hk⟩ : Fin 16) := by
    funext a; apply Fin.ext; fin_cases a <;> rfl
  have e0 : ((((cfg0.win 4).blk t).view.emb y (0 : Fin 2) : Fin 10000) : ℕ) = t.val * 512 + (y 0).val := by
    blk_simp [i0]
  have e1 : (((cfg0.win 4).blk t).view.emb y (1 : Fin 2) : Fin 16) = ⟨(y 1).val, hk⟩ := by
    apply Fin.ext
    blk_simp [i1]
  rw [hj]
  unfold outBlk
  rw [blockOut_at, posBlk_atom m c t _ ⟨_, hn⟩ hy0 _ e0]
  unfold energies
  rw [e1]
  exact congr (congr (congrArg _ (funext fun j => funext fun i => (iblk_hidW m c t j i).trans (V_hidW m c j i)))
    (funext fun j => (iblk_outW m c t j).trans (V_outW m c j))) ((iblk_outB m c t).trans (V_outB m c))

end Cert.IRun

end
-- ==== Proof.IVal.lean ====
/-
  The idealized kernel's whole run: every argument unchanged, every counter at zero, and the result column at the
  energies, one row per pair.
-/
module

public import proofs.«01_k».proof.Proof.IRun
public import proofs.«01_k».proof.Defs

@[expose] public section

set_option maxRecDepth 16384

noncomputable section

namespace Cert.IRun

open Cert.KernelIdeal Cert.KernelIdeal.Gen Cert.PairNet

open Idealize.ShloMosaic
open Idealize.ShloMosaic.TcCoe
open Idealize.SL.Sem

variable (m : (ℓ : Loc nD τ sig) → Buf (Elt Ideal) ℓ) (ρ : Dev nD → PrngReg)

set_option backward.isDefEq.respectTransparency.types false in
/-- From any memory with zero counters every weakly fair execution terminates without a fault, every buffer at what
    the last line leaves after the windows' arrays, every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r
        ∧ r.2.sem = fun _ => 0) :=
  Pipeline.θ_run_frame_around (Q' := _) cfgs (dats m) (0 : Fin 1) launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

/-- The result column as the last line leaves it: the output array in one column. -/
theorem tail_out (c : Dev nD) :
    Pipeline.afterTail₀ cfgs (dats m) 0 (V0 m) [hostOps1] c main_v15
      = shapeCast S160000x1 (energies m c) shapeCasts_S10000x16_S160000x1 := by
  have h : Pipeline.withArrays spec0 c (V0 m c) (fun w => (dats m 0 c).arrAt w cfg0.N) (Proc.devRef .tc main_v14)
      = energies m c :=
    (Pipeline.withArrays_arr spec0 (by decide) c (V0 m c) (fun w => (dats m 0 c).arrAt w cfg0.N) 4).trans (arr_out m c)
  unfold Pipeline.afterTail₀
  simp only [hostOps1, List.flatten_cons, List.flatten_nil, List.append_nil, List.cons_append, List.nil_append]
  after_results
  rw [← h]
  rfl

/-- The kernel's run: the result at the energies in one column, every argument unchanged, every counter at zero. -/
theorem run_out :
    θ_run defs (onTc (τ := τ) (main (F := Ideal))) ⟨m, fun _ => 0, ρ⟩ (fun r => (∀ c : Dev nD,
      r.2.mem ((c.tc : Thread nD τ).loc main_v15) = shapeCast S160000x1 (energies m c) shapeCasts_S10000x16_S160000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => ⟨((h.1 c).2 main_v15 (Pipeline.mem_restRefs_of main_v15 (by decide)
    (by decide))).trans (tail_out m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c),
    ((h.1 c).2 main_arg8 (Pipeline.mem_restRefs_of main_arg8 (by decide) (by decide))).trans (W_main_arg8 m (dats m) c),
    ((h.1 c).2 main_arg9 (Pipeline.mem_restRefs_of main_arg9 (by decide) (by decide))).trans (W_main_arg9 m (dats m) c),
    ((h.1 c).2 main_arg10 (Pipeline.mem_restRefs_of main_arg10 (by decide) (by decide))).trans (W_main_arg10 m (dats m) c),
    ((h.1 c).2 main_arg11 (Pipeline.mem_restRefs_of main_arg11 (by decide) (by decide))).trans (W_main_arg11 m (dats m) c),
    ((h.1 c).2 main_arg12 (Pipeline.mem_restRefs_of main_arg12 (by decide) (by decide))).trans (W_main_arg12 m (dats m) c)⟩, h.2⟩) (run_main m ρ)

end Cert.IRun

end
-- ==== Proof.Claims.lean ====
/-
  The claims that need no mathematics: each program runs, leaves its arguments and every counter as it found them, and
  the named constants are what the idealized kernel reads.
-/
module

public import proofs.«01_k».proof.Proof.KFrame
public import proofs.«01_k».proof.Proof.IVal
public import proofs.«01_k».proof.Proof.Gen.Pre_admissible
public import proofs.«01_k».proof.Proof.Gen.ReferenceIdeal.Run

@[expose] public section

noncomputable section

namespace Cert.Claims

open Idealize.ShloMosaic Idealize.SL.Sem

/-- The float kernel's frame. -/
theorem frame_p : Cert.quiescent_Kernel := fun m ρ _ => Cert.KRun.frame m ρ

/-- The idealized kernel's frame. -/
theorem frame_pi : Cert.quiescent_KernelIdeal := fun m ρ _ =>
  (θ_run Cert.KernelIdeal.defs _ _).mono (fun _ h => ⟨fun c => (h.1 c).2, h.2⟩) (Cert.IRun.run_out m ρ)

/-- The same, of an admissible memory. -/
theorem frame_pi_admissible : Cert.quiescent_KernelIdeal_pre_admissible := fun m ρ _ => frame_pi m ρ trivial

/-- The idealized reference's frame: it names no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of an admissible memory. -/
theorem frame_ri_admissible : Cert.quiescent_ReferenceIdeal_pre_admissible := fun m ρ _ => frame_ri m ρ trivial

/-- The named constants: each printed word reads as its name's real number. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

end Cert.Claims

end
-- ==== Proof.RFeat.lean ====
/-
  The reference's features of one atom's neighbours, over the extended reals, in the order its operations compute them.
-/
module

public import proofs.«01_k».proof.Proof.Feat

@[expose] public section

noncomputable section

namespace Cert.PairNet

open Idealize.ShloMosaic

/-- The reference's cutoff at length `r`. -/
def cutR (r : EReal) : EReal :=
  if cst (7 / 2) < r then
    cst (1 / 2) + cst (1 / 2) * Ideal.cos (Ideal.div (Ideal.acos (cst (-1)) * (r - cst (7 / 2))) (cst (-(1 / 2))))
  else 1

/-- The reference's radial feature of factor `n` at length `r`. -/
def radR (r : EReal) (n : ℝ) : EReal :=
  Ideal.div (Ideal.sqrt (Ideal.div (cst 2) (cst 3))
      * Ideal.sin (Ideal.div (cst n * Ideal.acos (cst (-1))) (cst 3) * r)) r * cutR r

/-- The reference's weight of a neighbour at length `r`. -/
def wgtR (r : EReal) : EReal :=
  cst (1 / 2) + cst (1 / 2) * Ideal.cos (Ideal.div (Ideal.acos (cst (-1)) * r) (cst 3))

/-- The cosine between two neighbours' directions, zero for a neighbour with itself. -/
def Nbrs.cosR (p : Nbrs) (k l : Fin 16) : EReal :=
  (p.dir k 0 * p.dir l 0 + p.dir k 1 * p.dir l 1 + p.dir k 2 * p.dir l 2) * (1 - if k = l then 1 else 0)

/-- The reference's centre `m` of twelve, from -1 to 1. -/
def muR (m : ℕ) : EReal :=
  if m < 11 then cst (-1) * (1 - Ideal.div (cst m) (cst 11)) + 1 * Ideal.div (cst m) (cst 11) else 1

/-- The reference's angular feature `m` of neighbour `k`. -/
def Nbrs.angR (p : Nbrs) (k : Fin 16) (m : ℕ) : EReal :=
  ∑ l, Ideal.exp (cst (-4) * ((p.cosR k l - muR m) * (p.cosR k l - muR m))) * wgtR (p.len l)

/-- The reference's seventeen features of neighbour `k`. -/
def Nbrs.rowR (p : Nbrs) (k : Fin 16) (i : Fin 17) : EReal :=
  if i.val < 5 then radR (p.len k) (i.val + 1) else p.angR k (i.val - 5)

/-- The reference's energy of neighbour `k`. -/
def Nbrs.outR (p : Nbrs) (k : Fin 16) (w : Fin 17 → Fin 128 → EReal) (b1 : Fin 128 → EReal) (v : Fin 128 → EReal)
    (b : EReal) : EReal :=
  (∑ j, Ideal.tanh ((∑ i, p.rowR k i * w i j) + b1 j) * v j) + b

end Cert.PairNet

end
-- ==== Proof.Radial.lean ====
/-
  The kernel's radial features and weights are the reference's, at any length at least `eps` (infinite ones included).
-/
module

public import proofs.«01_k».proof.Proof.RFeat
public import proofs.«01_k».proof.Proof.Lits

@[expose] public section

noncomputable section

namespace Cert.PairNet

open Idealize.ShloMosaic

/-- The reference's `π`. -/
theorem acos_neg_one : Ideal.acos (cst (-1)) = cst Real.pi := by
  rw [Ideal.acos_coe, if_pos (by norm_num), Real.arccos_neg_one]

/-- Division of real numbers. -/
theorem div_real (x : ℝ) {y : ℝ} (h : y ≠ 0) : Ideal.div (cst x) (cst y) = cst (x / y) := by
  rw [Ideal.div_coe h, ← EReal.coe_mul, mul_one_div]

/-- Anything over infinity is zero. -/
theorem div_top (x : EReal) : Ideal.div x ⊤ = 0 := by
  rw [Ideal.div, if_neg EReal.top_ne_zero, EReal.inv_top, mul_zero]

/-- The repeated turn is the sine and cosine of the multiple angle. -/
theorem turn_eq (x : ℝ) (n : ℕ) :
    turn (cst (Real.sin x)) (cst (Real.cos x)) n = (cst (Real.sin ((n + 1) * x)), cst (Real.cos ((n + 1) * x))) := by
  induction n with
  | zero => simp [turn]
  | succ n ih =>
    have hx : ((n + 1 : ℕ) + 1 : ℝ) * x = (n + 1) * x + x := by push_cast; ring
    unfold turn
    rw [ih, hx, Real.sin_add, Real.cos_add]
    push_cast
    rfl

/-- The kernel's cutoff is the reference's: the cosine of six times the angle, by the triple and the double angle. -/
theorem cut_eq (r : ℝ) : cutK (cst r) (cst (Real.cos (1 / 3 * Real.pi * r))) = cutR (cst r) := by
  unfold cutK cutR
  split
  · rw [acos_neg_one]
    have h3 : Real.cos (Real.pi * r) = (4 * Real.cos (1 / 3 * Real.pi * r) * Real.cos (1 / 3 * Real.pi * r) - 3)
        * Real.cos (1 / 3 * Real.pi * r) := by
      rw [show Real.pi * r = 3 * (1 / 3 * Real.pi * r) by ring, Real.cos_three_mul]; ring
    have h6 : Real.cos (Real.pi * (r - 7 / 2) / -(1 / 2)) = 1 - 2 * Real.cos (Real.pi * r) ^ 2 := by
      rw [show Real.pi * (r - 7 / 2) / -(1 / 2) = (Real.pi - 2 * (Real.pi * r)) + (3 : ℕ) * (2 * Real.pi) by push_cast; ring,
        Real.cos_add_nat_mul_two_pi, Real.cos_pi_sub, Real.cos_two_mul]; ring
    have hd : Ideal.div (cst Real.pi * (cst r - cst (7 / 2))) (cst (-(1 / 2))) = cst (Real.pi * (r - 7 / 2) / -(1 / 2)) := by
      rw [← EReal.coe_sub, ← EReal.coe_mul, div_real _ (by norm_num)]
    rw [hd, Ideal.cos_coe, h6, h3]
    norm_cast
    norm_num
    ring
  · rfl

/-- The kernel's radial features are the reference's. -/
theorem rad_eq (x y z : EReal) (h : cst eps ≤ len x y z) (n : ℕ) : radK x y z n = radR (len x y z) (n + 1) := by
  unfold radK lenG
  rw [max_eq_left h]
  have hb : len x y z ≠ ⊥ := fun e => by rw [e] at h; exact absurd (le_bot_iff.mp h) (EReal.coe_ne_bot _)
  generalize len x y z = l at h hb
  induction l with
  | bot => exact absurd rfl hb
  | top => unfold radR; simp only [div_top, mul_zero, zero_mul]
  | coe r =>
    have hr : r ≠ 0 := (lt_of_lt_of_le eps_pos (EReal.coe_le_coe_iff.mp h)).ne'
    have hc : cutK (cst r) (Ideal.cos (ang (cst r))) = cutR (cst r) := by
      unfold ang; rw [← EReal.coe_mul, Ideal.cos_coe]; exact cut_eq r
    have hs : (turn (Ideal.sin (ang (cst r))) (Ideal.cos (ang (cst r))) n).1 = cst (Real.sin ((n + 1) * (1 / 3 * Real.pi * r))) := by
      unfold ang; rw [← EReal.coe_mul, Ideal.cos_coe, Ideal.sin_coe, turn_eq]
    rw [hc, hs]
    unfold radR
    rw [acos_neg_one, ← EReal.coe_one, div_real _ hr, div_real _ (by norm_num), ← EReal.coe_mul (n + 1 : ℝ), div_real _ (by norm_num),
      ← EReal.coe_mul _ r, Ideal.sin_coe, Ideal.sqrt_coe, if_neg (by norm_num), ← EReal.coe_mul, ← EReal.coe_mul, div_real _ hr,
      mul_right_comm, ← EReal.coe_mul]
    congr 2
    rw [show (n + 1 : ℝ) * Real.pi / 3 * r = (n + 1) * (1 / 3 * Real.pi * r) by ring]
    ring

/-- The kernel's weights are the reference's. -/
theorem wgt_eq (r : EReal) (h : cst eps ≤ r) : wgtK r = wgtR r := by
  unfold wgtK wgtR ang
  rw [acos_neg_one, Ideal.div_coe (by norm_num), mul_right_comm, ← EReal.coe_mul]
  congr 5
  ring

end Cert.PairNet

end
-- ==== Proof.Angular.lean ====
/-
  The kernel's angular features are the reference's: the square in the exponent opened, the powers of one exponential
  for the twelve centres, and the constant factor taken out of the sum.
-/
module

public import proofs.«01_k».proof.Proof.Radial

@[expose] public section

noncomputable section

namespace Cert.PairNet

open Idealize.ShloMosaic

/-- A square is never negative. -/
theorem sq_nonneg' (x : EReal) : 0 ≤ x * x := by
  induction x with
  | bot => simp
  | top => simp
  | coe r => rw [← EReal.coe_mul]; exact_mod_cast mul_self_nonneg r

/-- An infinite square is all a sum of squares can be. -/
theorem top_add_sq (x y : EReal) : ⊤ + x * x + y * y = ⊤ := by
  rw [EReal.top_add_of_ne_bot fun e => absurd (sq_nonneg' x) (by rw [e]; simp),
    EReal.top_add_of_ne_bot fun e => absurd (sq_nonneg' y) (by rw [e]; simp)]

/-- A coordinate over a length at least `eps` is a real number. -/
theorem coord_real (x y z : EReal) (h : cst eps ≤ len x y z) : ∃ v : ℝ, Ideal.div x (len x y z) = cst v := by
  have hb : len x y z ≠ ⊥ := fun e => by rw [e] at h; exact absurd (le_bot_iff.mp h) (EReal.coe_ne_bot _)
  have hx : x * x = ⊤ → len x y z = ⊤ := fun e => by unfold len; rw [e, top_add_sq, Ideal.sqrt_top]
  generalize len x y z = l at h hb hx
  induction l with
  | bot => exact absurd rfl hb
  | top => exact ⟨0, by rw [div_top]; rfl⟩
  | coe r =>
    have hr : r ≠ 0 := (lt_of_lt_of_le eps_pos (EReal.coe_le_coe_iff.mp h)).ne'
    induction x with
    | bot => exact absurd (hx (by simp)) (EReal.coe_ne_top r)
    | top => exact absurd (hx (by simp)) (EReal.coe_ne_top r)
    | coe v => exact ⟨v / r, div_real v hr⟩

/-- The directions are real numbers. -/
theorem dir_real (p : Nbrs) (l : Fin 16) (h : cst eps ≤ p.len l) (d : Fin 3) : ∃ v : ℝ, p.dir l d = cst v := by
  unfold Nbrs.dir Nbrs.lenG lenG
  unfold Nbrs.len at h
  rw [max_eq_left h]
  fin_cases d
  · exact coord_real _ _ _ h
  · have e : PairNet.len (p l 0) (p l 1) (p l 2) = PairNet.len (p l 1) (p l 0) (p l 2) := by
      unfold PairNet.len; rw [add_comm (p l 0 * p l 0)]
    show ∃ v : ℝ, Ideal.div (p l 1) _ = _
    rw [e] at h ⊢
    exact coord_real _ _ _ h
  · have e : PairNet.len (p l 0) (p l 1) (p l 2) = PairNet.len (p l 2) (p l 1) (p l 0) := by
      unfold PairNet.len; rw [add_comm _ (p l 2 * p l 2), add_comm (p l 0 * p l 0), add_assoc]
    show ∃ v : ℝ, Ideal.div (p l 2) _ = _
    rw [e] at h ⊢
    exact coord_real _ _ _ h

/-- The cosines are real numbers, the kernel's and the reference's one. -/
theorem cos_real (p : Nbrs) (h : ∀ l, cst eps ≤ p.len l) (k l : Fin 16) :
    ∃ c : ℝ, p.cosK l k = cst c ∧ p.cosR k l = cst c := by
  unfold Nbrs.cosK Nbrs.cosR
  by_cases e : k = l
  · refine ⟨0, by rw [if_pos e.symm]; rfl, ?_⟩
    rw [if_pos e, show (1 - 1 : EReal) = 0 by rw [← EReal.coe_one, ← EReal.coe_sub, sub_self]; rfl, mul_zero]; rfl
  · obtain ⟨k0, hk0⟩ := dir_real p k (h k) 0
    obtain ⟨k1, hk1⟩ := dir_real p k (h k) 1
    obtain ⟨k2, hk2⟩ := dir_real p k (h k) 2
    obtain ⟨l0, hl0⟩ := dir_real p l (h l) 0
    obtain ⟨l1, hl1⟩ := dir_real p l (h l) 1
    obtain ⟨l2, hl2⟩ := dir_real p l (h l) 2
    rw [if_neg (Ne.symm e), if_neg e, hk0, hk1, hk2, hl0, hl1, hl2, sub_zero, mul_one]
    refine ⟨k0 * l0 + k1 * l1 + k2 * l2, ?_, by push_cast; rfl⟩
    rw [mul_comm k0, mul_comm k1, mul_comm k2]; push_cast; rfl

/-- A real factor's repeated product. -/
theorem times_eq (E U : ℝ) (w : EReal) (m : ℕ) : times (cst E * w) (cst U) m = cst (E * U ^ m) * w := by
  induction m with
  | zero => simp [times]
  | succ m ih => unfold times; rw [ih, mul_right_comm, ← EReal.coe_mul, pow_succ, mul_assoc]

/-- A nonnegative real factor goes into a sum. -/
theorem mul_sum_real {ι : Type} (s : Finset ι) (f : ι → EReal) {a : ℝ} (ha : 0 ≤ a) :
    cst a * ∑ l ∈ s, f l = ∑ l ∈ s, cst a * f l := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- The reference's centres. -/
theorem mu_eq (m : ℕ) (hm : m < 12) : muR m = cst ((2 * m - 11) / 11) := by
  unfold muR
  split
  · rw [div_real _ (by norm_num), one_mul, ← EReal.coe_one, ← EReal.coe_sub, ← EReal.coe_mul, ← EReal.coe_add]
    congr 1; ring
  · rw [show m = 11 by omega, ← EReal.coe_one]; congr 1; norm_num

/-- The kernel's angular features are the reference's. -/
theorem ang_eq (p : Nbrs) (h : ∀ l, cst eps ≤ p.len l) (k : Fin 16) (m : ℕ) (hm : m < 12) (e : ℝ)
    (he : e = -4 * ((2 * m - 11) / 11) ^ 2) : p.angK k e m = p.angR k m := by
  unfold Nbrs.angK Nbrs.angR
  rw [Ideal.exp_coe, mul_sum_real _ _ (Real.exp_pos e).le]
  refine Finset.sum_congr rfl fun l _ => ?_
  obtain ⟨c, hK, hR⟩ := cos_real p h k l
  unfold Nbrs.termK
  rw [hK, hR, mu_eq m hm, wgt_eq _ (h l), ← EReal.coe_sub, ← EReal.coe_mul, ← EReal.coe_mul, ← EReal.coe_mul, ← EReal.coe_add,
    ← EReal.coe_mul, ← EReal.coe_mul, Ideal.exp_coe, Ideal.exp_coe, Ideal.exp_coe, times_eq, ← mul_assoc, ← EReal.coe_mul]
  congr 2
  rw [← Real.exp_nat_mul, ← Real.exp_add, ← Real.exp_add, he]
  congr 1
  ring

end Cert.PairNet

end
-- ==== Proof.Equal.lean ====
/-
  The kernel's energy of a neighbour is the reference's.
-/
module

public import proofs.«01_k».proof.Proof.Angular
public import proofs.«01_k».proof.Proof.KHost

@[expose] public section

noncomputable section

namespace Cert.PairNet

open Idealize.ShloMosaic

/-- The kernel's first seventeen rows are the reference's features. -/
theorem row_eq (p : Nbrs) (h : ∀ l, cst eps ≤ p.len l) (k : Fin 16) (i : Fin 17) :
    p.rowK k i.castSucc.castSucc = p.rowR k i := by
  have hr := rad_eq (p k 0) (p k 1) (p k 2) (h k)
  fin_cases i
  · exact (hr 0).trans (by simp [Nbrs.rowR, Nbrs.len])
  · exact (hr 1).trans (by simp [Nbrs.rowR, Nbrs.len])
  · exact (hr 2).trans (by simp [Nbrs.rowR, Nbrs.len])
  · exact (hr 3).trans (by simp [Nbrs.rowR, Nbrs.len])
  · exact (hr 4).trans (by simp [Nbrs.rowR, Nbrs.len])
  · exact (ang_eq p h k 0 (by norm_num) _ (by norm_num)).trans (by simp [Nbrs.rowR])
  · exact (ang_eq p h k 1 (by norm_num) _ (by norm_num)).trans (by simp [Nbrs.rowR])
  · exact (ang_eq p h k 2 (by norm_num) _ (by norm_num)).trans (by simp [Nbrs.rowR])
  · exact (ang_eq p h k 3 (by norm_num) _ (by norm_num)).trans (by simp [Nbrs.rowR])
  · exact (ang_eq p h k 4 (by norm_num) _ (by norm_num)).trans (by simp [Nbrs.rowR])
  · exact (ang_eq p h k 5 (by norm_num) _ (by norm_num)).trans (by simp [Nbrs.rowR])
  · exact (ang_eq p h k 6 (by norm_num) _ (by norm_num)).trans (by simp [Nbrs.rowR])
  · exact (ang_eq p h k 7 (by norm_num) _ (by norm_num)).trans (by simp [Nbrs.rowR])
  · exact (ang_eq p h k 8 (by norm_num) _ (by norm_num)).trans (by simp [Nbrs.rowR])
  · exact (ang_eq p h k 9 (by norm_num) _ (by norm_num)).trans (by simp [Nbrs.rowR])
  · exact (ang_eq p h k 10 (by norm_num) _ (by norm_num)).trans (by simp [Nbrs.rowR])
  · exact (ang_eq p h k 11 (by norm_num) _ (by norm_num)).trans (by simp [Nbrs.rowR])

/-- A bias split in two, itself and its difference with itself, adds as the bias does, unless it is `+∞`. -/
theorem bias_split (s b : EReal) (hb : b < ⊤) : s + b * 1 + (b - b) * 1 = s + b := by
  rw [mul_one, mul_one]
  induction b with
  | bot => simp
  | top => exact absurd hb (lt_irrefl _)
  | coe r => rw [← EReal.coe_sub, sub_self, EReal.coe_zero, add_zero]

/-- The kernel's hidden unit, before its `tanh`, is the reference's. -/
theorem hidden_eq (p : Nbrs) (h : ∀ l, cst eps ≤ p.len l) (k : Fin 16)
    (w : (⟨2, ![17, 128]⟩ : Shape).Idx → EReal) (b : (⟨1, ![128]⟩ : Shape).Idx → EReal) (j : Fin 128) (hb : b (ix1 j) < ⊤) :
    ∑ i, hidW w b j i * p.rowK k i = (∑ i, p.rowR k i * w (ix2 i j)) + b (ix1 j) := by
  rw [Fin.sum_univ_castSucc, Fin.sum_univ_castSucc]
  have h17 : hidW w b j (Fin.last 17).castSucc * p.rowK k (Fin.last 17).castSucc = b (ix1 j) * 1 := rfl
  have h18 : hidW w b j (Fin.last 18) * p.rowK k (Fin.last 18) = (b (ix1 j) - b (ix1 j)) * 1 := rfl
  rw [h17, h18, bias_split _ _ hb]
  congr 1
  refine Finset.sum_congr rfl fun i _ => ?_
  rw [row_eq p h, mul_comm]
  congr 1
  unfold hidW
  rw [dif_pos (show i.castSucc.castSucc.val < 17 from i.isLt)]
  rfl

/-- The kernel's energy of a neighbour is the reference's. -/
theorem out_eq (p : Nbrs) (h : ∀ l, cst eps ≤ p.len l) (k : Fin 16)
    (w : (⟨2, ![17, 128]⟩ : Shape).Idx → EReal) (b : (⟨1, ![128]⟩ : Shape).Idx → EReal) (hb : ∀ j, b (ix1 j) < ⊤)
    (v : Fin 128 → EReal) (c : EReal) :
    p.outK k (hidW w b) v c = p.outR k (fun i j => w (ix2 i j)) (fun j => b (ix1 j)) v c := by
  unfold Nbrs.outK Nbrs.outR
  congr 1
  refine Finset.sum_congr rfl fun j _ => ?_
  rw [hidden_eq p h k w b j (hb j), mul_comm]

end Cert.PairNet

end
-- ==== Proof.RPoint.lean ====
/-
  The reference's lengths and cutoff read at an index.
-/
module

public import proofs.«01_k».proof.Proof.RFeat
public import proofs.«01_k».proof.Proof.Lits
public import proofs.«01_k».proof.Proof.Gen.ReferenceIdeal.Run
public import Idealize.ShloMosaic.Lib.Pointwise

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- The positions. -/
abbrev posR : FVec Ideal S160000x3 .f32 := V0 (Proc.devRef .tc main_arg4)

/-- The lengths, as an array of floats. -/
abbrev lenArr : FVec Ideal S160000x1 .f32 := res_main_v1 V0

/-- The cutoffs, as an array of floats. -/
abbrev cutArr : FVec Ideal S160000x1 .f32 := res_main_v20 V0

/-- The directions, as an array of floats. -/
abbrev dirArr : FVec Ideal S10000x16x3 .f32 := res_main_v93 V0

/-- The cosines less the centres, as an array of floats. -/
abbrev gapArr : FVec Ideal S10000x16x16x12 .f32 := res_main_v110 V0

/-- The hidden layer's weights. -/
abbrev hidWR : FVec Ideal S17x128 .f32 := V0 (Proc.devRef .tc main_arg9)

/-- The hidden layer's biases. -/
abbrev hidBR : FVec Ideal S128 .f32 := V0 (Proc.devRef .tc main_arg10)

/-- The output weights. -/
abbrev outWR : FVec Ideal S128x1 .f32 := V0 (Proc.devRef .tc main_arg11)

/-- The output bias. -/
abbrev outBR : FVec Ideal S1 .f32 := V0 (Proc.devRef .tc main_arg12)

/-- The lengths. -/
theorem v1_at (e : Fin 160000) :
    lenArr V0 (ix2 e 0) = len (posR V0 (ix2 e 0)) (posR V0 (ix2 e 1)) (posR V0 (ix2 e 2)) := by
  pointwise [lenArr, res_main_v1, len, posR, Fin.sum_univ_three]

/-- The cutoff. -/
theorem v20_at (e : Fin 160000) :
    cutArr V0 (ix2 e 0)
      = cutR (lenArr V0 (ix2 e 0)) := by
  pointwise [res_main_v20, cutR, lit_7_2, lit_half, lit_neg_half, lit_neg_1, id]

end Cert.PairNet

end
-- ==== Proof.RDir.lean ====
/-
  The reference's directions read at an index.
-/
module

public import proofs.«01_k».proof.Proof.RPoint
public import proofs.«01_k».proof.Proof.Gen.ReferenceIdeal.Run
public import Idealize.ShloMosaic.Lib.Pointwise

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- The directions. -/
theorem v93_at (a : Fin 10000) (l : Fin 16) (d : Fin 3) :
    dirArr V0 (ix3 a l d)
      = Ideal.div (posR V0 (ix2 (pairRow a l) d)) (max (lenArr V0 (ix2 (pairRow a l) 0)) (cst eps)) := by
  pointwise [res_main_v93, lit_eps, posR, pairRow]

end Cert.PairNet

end
-- ==== Proof.RCos.lean ====
/-
  The reference's cosines less its centres read at an index.
-/
module

public import proofs.«01_k».proof.Proof.RPoint
public import proofs.«01_k».proof.Proof.Gen.ReferenceIdeal.Run
public import Idealize.ShloMosaic.Lib.Pointwise

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- The words of two neighbours agree exactly when the neighbours do. -/
theorem word_eq : ∀ k l : Fin 16, IntOp.cmpi CmpIPredicate.eq (IntOp.addi (BitVec.ofNat 32 k.val) 0#32) (BitVec.ofNat 32 l.val)
    = if k = l then 1#1 else 0#1 := by
  decide +kernel

/-- A centre's word reads as its number. -/
theorem word_int : ∀ m : Fin 12, (BitVec.ofNat 32 m.val).toInt = m.val := by
  decide +kernel

/-- A centre's word as a float. -/
theorem word_real (m : Fin 12) : (FloatOps.sitofp .f32 (BitVec.ofNat 32 m.val) : Ideal .f32) = cst m.val := by
  show (((BitVec.ofNat 32 m.val).toInt : ℝ) : EReal) = _
  rw [word_int]
  rfl

/-- The identity matrix's words as floats. -/
theorem eye_word (k l : Fin 16) :
    (FloatOps.uitofp .f32 (IntOp.cmpi CmpIPredicate.eq (IntOp.addi (BitVec.ofNat 32 k.val) 0#32) (BitVec.ofNat 32 l.val)) : Ideal .f32)
      = if k = l then 1 else 0 := by
  rw [word_eq]
  split
  · show (((1#1 : BitVec 1).toNat : ℝ) : EReal) = 1
    simp
  · show (((0#1 : BitVec 1).toNat : ℝ) : EReal) = 0
    simp

/-- The cosines less the centres. -/
theorem v110_at (a : Fin 10000) (k l : Fin 16) (m : Fin 12) :
    gapArr V0 (ix4 a k l m)
      = (∑ d : Fin 3, dirArr V0 (ix3 a k d) * dirArr V0 (ix3 a l d))
          * (1 - if k = l then 1 else 0) - muR m := by
  pointwise [gapArr, dirArr, res_main_v110, word_real, eye_word, lit_neg_1, res_main_call0_v0, res_main_call0_v1, res_main_call0_v6, muR, lit_11, id]
  by_cases hm : m.val < 11
  · rw [dif_pos hm, if_pos hm]
  · rw [dif_neg hm, if_neg hm]

end Cert.PairNet

end
-- ==== Proof.RStage.lean ====
/-
  The reference's result as three stages of arrays, each read at an index.
-/
module

public import proofs.«01_k».proof.Proof.RPoint
public import proofs.«01_k».proof.Proof.Gen.ReferenceIdeal.Run
public import Idealize.ShloMosaic.Lib.Pointwise

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- A radial column, its factor the word `b`. -/
def radCol (b : BitVec 32) : FVec Ideal S160000x1 .f32 :=
  mulf (Host.divf (mulf (broadcastInDim S160000x1 ![] bcast_S_S160000x1 (Host.sqrt (Host.divf (constant S_ .f32 0x40000000#32) (constant S_ .f32 0x40400000#32)))) (Host.sin (mulf (broadcastInDim S160000x1 ![] bcast_S_S160000x1 (Host.divf (mulf (constant S_ .f32 b) (Host.acos (constant S_ .f32 0xBF800000#32))) (constant S_ .f32 0x40400000#32))) (res_main_v1 V0)))) (res_main_v1 V0)) (res_main_v20 V0)

/-- The weights, one to a neighbour. -/
def wgtArr : FVec Ideal S10000x16 .f32 :=
  shapeCast _ (shapeCast _ (addf (broadcastInDim S160000x1 ![] bcast_S_S160000x1 (constant S_ .f32 0x3F000000#32)) (mulf (broadcastInDim S160000x1 ![] bcast_S_S160000x1 (constant S_ .f32 0x3F000000#32)) (Host.cos (Host.divf (mulf (broadcastInDim S160000x1 ![] bcast_S_S160000x1 (Host.acos (constant S_ .f32 0xBF800000#32))) (res_main_v1 V0)) (broadcastInDim S160000x1 ![] bcast_S_S160000x1 (constant S_ .f32 0x40400000#32)))))) shapeCasts_S160000x1_S160000) shapeCasts_S160000_S10000x16

/-- The angular features by atom and neighbour. -/
def angArr : FVec Ideal S10000x16x12 .f32 :=
  Host.reduceAdd (mulf (Host.exp (mulf (broadcastInDim S10000x16x16x12 ![] bcast_S_S10000x16x16x12 (constant S_ .f32 0xC0800000#32)) (mulf (res_main_v110 V0) (res_main_v110 V0)))) (broadcastInDim S10000x16x16x12 ![0, 1, 2, 3] bcast_S10000x1x16x1_S10000x16x16x12_0_1_2_3 (broadcastInDim S10000x1x16x1 ![0, 2] bcast_S10000x16_S10000x1x16x1_0_2 (wgtArr V0)))) (constant S_ .f32 0x00000000#32) reducesTo_S10000x16x16x12_S10000x16x12_d2 h_S_

/-- The features by pair. -/
def featArr : FVec Ideal S160000x17 .f32 :=
  concatenate S160000x17 1 [⟨S160000x5, ((concatenate S160000x5 1 [⟨S160000x1, radCol V0 0x3F800000#32⟩, ⟨S160000x1, radCol V0 0x40000000#32⟩, ⟨S160000x1, radCol V0 0x40400000#32⟩, ⟨S160000x1, radCol V0 0x40800000#32⟩, ⟨S160000x1, radCol V0 0x40A00000#32⟩] concatenates_S160000x1_S160000x1_S160000x1_S160000x1_S160000x1_S160000x5_d1 : FVec Ideal S160000x5 .f32))⟩, ⟨S160000x12, (shapeCast _ (angArr V0) shapeCasts_S10000x16x12_S160000x12 : FVec Ideal S160000x12 .f32)⟩] concatenates_S160000x5_S160000x12_S160000x17_d1

/-- The result is the two layers of the features. -/
theorem v130_eq : (res_main_v130 V0 : FVec Ideal S160000x1 .f32) =
    addf (Host.dotGeneral dot_S160000x128_S128x1_S160000x1_1_0_0_1_n_n none (Host.tanh (addf (Host.dotGeneral dot_S160000x17_S17x128_S160000x128_1_0_0_1_n_n none (featArr V0) (hidWR V0)) (broadcastInDim S160000x128 ![0, 1] bcast_S1x128_S160000x128_0_1 (broadcastInDim S1x128 ![1] bcast_S128_S1x128_1 (hidBR V0)))))
      (outWR V0)) (broadcastInDim S160000x1 ![0, 1] bcast_S1x1_S160000x1_0_1 (broadcastInDim S1x1 ![1] bcast_S1_S1x1_1 (outBR V0))) := rfl

/-- A radial column at a pair. -/
theorem radCol_at (b : BitVec 32) (e : Fin 160000) :
    radCol V0 b (ix2 e 0) = Ideal.div (Ideal.sqrt (Ideal.div (cst 2) (cst 3))
      * Ideal.sin (Ideal.div (Ideal.ofBits .f32 b * Ideal.acos (cst (-1))) (cst 3) * lenArr V0 (ix2 e 0)))
        (lenArr V0 (ix2 e 0)) * cutArr V0 (ix2 e 0) := by
  pointwise [radCol, lit_2, lit_3, lit_neg_1]

/-- The weights at an atom and a neighbour. -/
theorem wgtArr_at (a : Fin 10000) (l : Fin 16) :
    wgtArr V0 (ix2 a l) = wgtR (lenArr V0 (ix2 (pairRow a l) 0)) := by
  pointwise [wgtArr, wgtR, lit_half, lit_neg_1, lit_3, pairRow]

/-- The angular features at an atom, a neighbour and a centre. -/
theorem angArr_at (a : Fin 10000) (k : Fin 16) (m : Fin 12) :
    angArr V0 (ix3 a k m) = ∑ l : Fin 16, Ideal.exp (cst (-4) * (gapArr V0 (ix4 a k l m)
      * gapArr V0 (ix4 a k l m))) * wgtArr V0 (ix2 a l) := by
  pointwise [angArr, lit_neg_4]

end Cert.PairNet

end
-- ==== Proof.ROut.lean ====
/-
  The reference's features and result read at an index.
-/
module

public import proofs.«01_k».proof.Proof.RStage
public import proofs.«01_k».proof.Proof.Gen.ReferenceIdeal.Run
public import Idealize.ShloMosaic.Lib.Pointwise

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- The features at a pair. -/
theorem featArr_at (a : Fin 10000) (k : Fin 16) (i : Fin 17) :
    featArr V0 (ix2 (pairRow a k) i) = if h : i.val < 5 then
      radCol V0 (![0x3F800000#32, 0x40000000#32, 0x40400000#32, 0x40800000#32, 0x40A00000#32] ⟨i.val, h⟩) (ix2 (pairRow a k) 0)
      else angArr V0 (ix3 a k ⟨i.val - 5, by omega⟩) := by
  pointwise [featArr, pairRow]
  obtain ⟨i, hi⟩ := i
  interval_cases i <;> simp

/-- The result at a pair. -/
theorem v130_at (e : Fin 160000) :
    (res_main_v130 V0 : FVec Ideal S160000x1 .f32) (ix2 e 0) =
      (∑ j : Fin 128, Ideal.tanh ((∑ i : Fin 17, featArr V0 (ix2 e i) * hidWR V0 (ix2 i j))
        + hidBR V0 (ix1 j)) * outWR V0 (ix2 j 0))
      + outBR V0 (ix1 0) := by
  rw [v130_eq]
  pointwise []

end Cert.PairNet

end
-- ==== Proof.RVal.lean ====
/-
  The reference's result at a pair is its energy of that atom's neighbour.
-/
module

public import proofs.«01_k».proof.Proof.RDir
public import proofs.«01_k».proof.Proof.RCos
public import proofs.«01_k».proof.Proof.ROut

@[expose] public section

set_option maxRecDepth 16384

noncomputable section

namespace Cert.PairNet

open Idealize.ShloMosaic Cert.ReferenceIdeal Cert.ReferenceIdeal.Gen Cert.ReferenceIdeal.Value

variable (V0 : Valuation τ sig (Elt Ideal))

/-- An atom's neighbours, of the reference's positions. -/
def nbrsR (a : Fin 10000) : Nbrs := fun l d => posR V0 (ix2 (pairRow a l) d)

/-- A neighbour's length. -/
theorem len_at (a : Fin 10000) (l : Fin 16) : lenArr V0 (ix2 (pairRow a l) 0) = (nbrsR V0 a).len l := v1_at V0 _

/-- A direction. -/
theorem dir_at (a : Fin 10000) (l : Fin 16) (d : Fin 3) : dirArr V0 (ix3 a l d) = (nbrsR V0 a).dir l d := by
  rw [v93_at, len_at]; rfl

/-- A cosine less a centre. -/
theorem gap_at (a : Fin 10000) (k l : Fin 16) (m : Fin 12) : gapArr V0 (ix4 a k l m) = (nbrsR V0 a).cosR k l - muR m := by
  rw [v110_at, Fin.sum_univ_three]
  simp only [dir_at]
  rfl

/-- An angular feature. -/
theorem ang_at (a : Fin 10000) (k : Fin 16) (m : Fin 12) : angArr V0 (ix3 a k m) = (nbrsR V0 a).angR k m := by
  rw [angArr_at]
  unfold Nbrs.angR
  refine Finset.sum_congr rfl fun l _ => ?_
  rw [gap_at, wgtArr_at, len_at]

/-- A radial feature. -/
theorem rad_at (a : Fin 10000) (k : Fin 16) (b : BitVec 32) (n : ℝ) (hb : Ideal.ofBits .f32 b = cst n) :
    radCol V0 b (ix2 (pairRow a k) 0) = radR ((nbrsR V0 a).len k) n := by
  rw [radCol_at, hb, v20_at, len_at]; rfl

/-- The features of a pair. -/
theorem feat_at (a : Fin 10000) (k : Fin 16) (i : Fin 17) : featArr V0 (ix2 (pairRow a k) i) = (nbrsR V0 a).rowR k i := by
  rw [featArr_at]
  unfold Nbrs.rowR
  by_cases h : i.val < 5
  · rw [dif_pos h, if_pos h]
    obtain ⟨i, hi⟩ := i
    refine rad_at V0 a k _ _ ?_
    interval_cases i
    · exact Ideal.ofBits_one_f32.trans (by norm_num)
    · exact lit_2.trans (by norm_num)
    · exact lit_3.trans (by norm_num)
    · exact lit_4.trans (by norm_num)
    · exact lit_5.trans (by norm_num)
  · rw [dif_neg h, if_neg h, ang_at]

/-- The result of a pair. -/
theorem res_at (a : Fin 10000) (k : Fin 16) :
    (res_main_v130 V0 : FVec Ideal S160000x1 .f32) (ix2 (pairRow a k) 0) =
      (nbrsR V0 a).outR k (fun i j => hidWR V0 (ix2 i j)) (fun j => hidBR V0 (ix1 j)) (fun j => outWR V0 (ix2 j 0)) (outBR V0 (ix1 0)) := by
  rw [v130_at]
  simp only [feat_at]
  rfl

end Cert.PairNet

end
-- ==== Proof.Admissible.lean ====
/-
  What the precondition says: every length is at least `eps`, and no bias of the hidden layer is `+∞`.
-/
module

public import proofs.«01_k».proof.Proof.Feat
public import proofs.«01_k».proof.Proof.Lits
public import proofs.«01_k».proof.Pre_admissible
public import proofs.«01_k».proof.Proof.Gen.Pre_admissible
public import Idealize.ShloMosaic.Lib.Pointwise
public import Idealize.ShloMosaic.Lib.ReduceAll
public import Idealize.ShloMosaic.Lib.Affine

@[expose] public section

set_option maxRecDepth 16384

noncomputable section

namespace Cert.PairNet

open Idealize.ShloMosaic Cert.Pre_admissible Cert.Pre_admissible.Gen

/-- Infinity's word. -/
theorem lit_inf : Ideal.ofBits .f32 0x7F800000#32 = ⊤ := by
  simp [Ideal.ofBits, Ideal.ieee]

/-- A test whose bit is one holds. -/
theorem bit_says {P : Prop} [Decidable P] (h : BitVec.ofBool (decide P) = 1#1) : P := by
  by_contra hn
  rw [decide_eq_false hn] at h
  exact absurd h (by decide)

/-- The test of a length. -/
theorem length_test (r : FVec Ideal S160000x3 .f32) (e : Fin 160000) :
    cmpf .oge (Host.sqrt (Host.reduceAdd (mulf r r) (constant S_ .f32 0x00000000#32) reducesTo_S160000x3_S160000_d1 h_S_))
      (broadcastInDim S160000 ![] bcast_S_S160000 (constant S_ .f32 0x2B8CBCCC#32)) (ix1 e)
      = BitVec.ofBool (decide (cst eps ≤ len (r (ix2 e 0)) (r (ix2 e 1)) (r (ix2 e 2)))) := by
  pointwise [lit_eps, Fin.sum_univ_three, len]

/-- The test of a bias. -/
theorem bias_test (b : FVec Ideal S128 .f32) (j : Fin 128) :
    cmpf .olt b (broadcastInDim S128 ![] bcast_S_S128 (constant S_ .f32 0x7F800000#32)) (ix1 j)
      = BitVec.ofBool (decide (b (ix1 j) < ⊤)) := by
  pointwise [lit_inf]

/-- The precondition, unpacked. -/
theorem admissible_says (a0 a1 a2 a3 a4 a5 a6 a7 a8 a9 a10 a11 a12)
    (h : Cert.Pre_admissible.fn (F := Ideal) a0 a1 a2 a3 a4 a5 a6 a7 a8 a9 a10 a11 a12 = fun _ => 1#1) :
    (∀ e : Fin 160000, cst eps ≤ len (a4 (ix2 e 0)) (a4 (ix2 e 1)) (a4 (ix2 e 2))) ∧ ∀ j : Fin 128, a10 (ix1 j) < (⊤ : EReal) := by
  have h0 := IntOp.andi_eq_one.mp (congrFun h ix0)
  haveI : Subsingleton S_.Idx := ⟨fun _ _ => funext fun a => a.elim0⟩
  refine ⟨fun e => ?_, fun j => ?_⟩
  · have := (length_test a4 e).symm.trans (Host.reduce_andi_all _ _ _ _ _ h0.1 (ix1 e))
    exact bit_says this
  · have := (bias_test a10 j).symm.trans (Host.reduce_andi_all _ _ _ _ _ h0.2 (ix1 j))
    exact bit_says this

end Cert.PairNet

end
-- ==== Proof.Algebraic.lean ====
/-
  The value claim: of an admissible memory, the idealized kernel and the idealized reference end with one result.
-/
module

public import proofs.«01_k».proof.Proof.Claims
public import proofs.«01_k».proof.Proof.Equal
public import proofs.«01_k».proof.Proof.RVal
public import proofs.«01_k».proof.Proof.Admissible

@[expose] public section

set_option maxRecDepth 16384

noncomputable section

namespace Cert.Claims

open Idealize.ShloMosaic Idealize.SL.Sem Cert.PairNet

/-- The output array in one column, read at a pair. -/
theorem column_at (x : FVec Ideal Cert.KernelIdeal.S10000x16 .f32) (a : Fin 10000) (k : Fin 16) :
    shapeCast Cert.KernelIdeal.S160000x1 x Cert.KernelIdeal.Gen.shapeCasts_S10000x16_S160000x1 (ix2 (pairRow a k) 0) = x (ix2 a k) := by
  pointwise [pairRow]

/-- Every index of a column is a pair's. -/
theorem pair_of (i : Cert.KernelIdeal.S160000x1.Idx) : ∃ (a : Fin 10000) (k : Fin 16), i = ix2 (pairRow a k) 0 := by
  have h : (i 0).val < 160000 := (i 0).isLt
  refine ⟨⟨(i 0).val / 16, by omega⟩, ⟨(i 0).val % 16, by omega⟩, ?_⟩
  funext b
  fin_cases b
  · apply Fin.ext
    show (i 0).val = (i 0).val / 16 * 16 + (i 0).val % 16
    omega
  · exact Subsingleton.elim (α := Fin 1) _ _

/-- The value claim. -/
theorem algebraic : Cert.algebraic_KernelIdeal_ReferenceIdeal_pre_admissible := by
  intro m ρ m' ρ' hpre hagree
  refine ⟨_, (θ_run Cert.KernelIdeal.defs _ _).mono (fun _ h => h.1) (Cert.IRun.run_out m ρ), ?_⟩
  refine (θ_run Cert.ReferenceIdeal.defs _ _).mono (fun _ h c => ⟨(h c).1.trans ?_, (h c).2⟩)
    (Cert.ReferenceIdeal.Value.run (F := Ideal) m' ρ')
  obtain ⟨hlen, hb⟩ := admissible_says _ _ _ _ _ _ _ _ _ _ _ _ _ (hpre c)
  obtain ⟨-, -, -, -, h4, -, -, -, -, h9, h10, h11, h12⟩ := hagree c
  funext i
  obtain ⟨a, k, rfl⟩ := pair_of i
  refine (res_at _ a k).trans (Eq.trans ?_ (column_at (Cert.IRun.energies m c) a k).symm)
  have hn : nbrsR (StableHlo.launchContents m' c) a
      = posNbrs (m ((c.tc : Thread Cert.KernelIdeal.nD Cert.KernelIdeal.τ).loc Cert.KernelIdeal.main_arg4)) a := by
    rw [← h4]; rfl
  have e9 : hidWR (StableHlo.launchContents m' c) = m ((c.tc : Thread Cert.KernelIdeal.nD Cert.KernelIdeal.τ).loc Cert.KernelIdeal.main_arg9) := h9
  have e10 : hidBR (StableHlo.launchContents m' c) = m ((c.tc : Thread Cert.KernelIdeal.nD Cert.KernelIdeal.τ).loc Cert.KernelIdeal.main_arg10) := h10
  have e11 : outWR (StableHlo.launchContents m' c) = m ((c.tc : Thread Cert.KernelIdeal.nD Cert.KernelIdeal.τ).loc Cert.KernelIdeal.main_arg11) := h11
  have e12 : outBR (StableHlo.launchContents m' c) = m ((c.tc : Thread Cert.KernelIdeal.nD Cert.KernelIdeal.τ).loc Cert.KernelIdeal.main_arg12) := h12
  rw [hn, e9, e10, e11, e12]
  exact (out_eq (posNbrs (m ((c.tc : Thread Cert.KernelIdeal.nD Cert.KernelIdeal.τ).loc Cert.KernelIdeal.main_arg4)) a)
    (fun l => hlen (pairRow a l)) k _ _ hb _ _).symm

end Cert.Claims

end
-- ==== Proof.lean ====
module

public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_admissible
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_admissible.Gen.facts,
    Claims.frame_p, Claims.frame_pi, Claims.frame_pi_admissible, Claims.frame_ri, Claims.frame_ri_admissible,
    Claims.preserves, Claims.algebraic⟩

end Cert.Proof

end
